-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S100000x1024 : Shape := ⟨2, ![100000, 1024]⟩
abbrev S1 : Shape := ⟨1, ![1]⟩
abbrev S4000x1024 : Shape := ⟨2, ![4000, 1024]⟩
abbrev S1x4000x1024 : Shape := ⟨3, ![1, 4000, 1024]⟩
abbrev S1x1x1 : Shape := ⟨3, ![1, 1, 1]⟩
abbrev S_ : Shape := ⟨0, ![]⟩
abbrev S1024x100096 : Shape := ⟨2, ![1024, 100096]⟩
abbrev S2x8 : Shape := ⟨2, ![2, 8]⟩
abbrev S512 : Shape := ⟨1, ![512]⟩
abbrev S8x8x128 : Shape := ⟨3, ![8, 8, 128]⟩
abbrev S1x8x128 : Shape := ⟨3, ![1, 8, 128]⟩
abbrev S8x128 : Shape := ⟨2, ![8, 128]⟩
abbrev S1x1 : Shape := ⟨2, ![1, 1]⟩
abbrev S2x1 : Shape := ⟨2, ![2, 1]⟩
abbrev S2 : Shape := ⟨1, ![2]⟩

abbrev nBuf : Table → Nat
  | .hbm => 20
  | .local .tc .vmem => 2
  | .local .tc .smem => 2
  | .local .scScalar .smem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000x1024, .f32⟩
  | .hbm, ⟨3, _⟩ => ⟨S1, .f32⟩
  | .hbm, ⟨4, _⟩ => ⟨S_, .i32⟩
  | .hbm, ⟨5, _⟩ => ⟨S_, .f32⟩
  | .hbm, ⟨6, _⟩ => ⟨S1024x100096, .f32⟩
  | .hbm, ⟨7, _⟩ => ⟨S2x8, .f32⟩
  | .hbm, ⟨8, _⟩ => ⟨S2x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local .tc .vmem, ⟨0, _⟩ => ⟨S4000x1024, .f32⟩
  | .local .tc .vmem, ⟨1, _⟩ => ⟨S4000x1024, .f32⟩
  | .local .tc .smem, ⟨0, _⟩ => ⟨S1, .f32⟩
  | .local .tc .smem, ⟨1, _⟩ => ⟨S1, .f32⟩
  | .local .scScalar .smem, ⟨0, _⟩ => ⟨S512, .i32⟩
  | .local .scScalar .smem, ⟨1, _⟩ => ⟨S8x8x128, .f32⟩
  | .local .scScalar .smem, ⟨2, _⟩ => ⟨S1, .f32⟩
  | _, _ => ⟨S1024x100000, .f32⟩

abbrev bufScoped : (cs : CoreSpace) → Fin (nBuf (.local .tc cs)) → Bool
  | .vmem, ⟨0, _⟩ => true
  | .vmem, ⟨1, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v2_scs : Ref sig .scScalar := ⟨.hbm, 6, rfl⟩
abbrev main_arg1_scs : Ref sig .scScalar := ⟨.hbm, 1, rfl⟩
abbrev main_v3_scs : Ref sig .scScalar := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.smem, 0, rfl⟩
abbrev cc0_scratch0 : Ref sig .tc := ⟨.smem, 1, rfl⟩
abbrev cc1_scratch0 : Ref sig .scScalar := ⟨.smem, 0, rfl⟩
abbrev cc1_scratch1 : Ref sig .scScalar := ⟨.smem, 1, rfl⟩
abbrev cc1_scratch2 : Ref sig .scScalar := ⟨.smem, 2, rfl⟩
abbrev cc0_sem0_0 : DmaSem sig := 0
abbrev cc0_sem0_1 : DmaSem sig := 1
abbrev cc0_sem1_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![2], ![false]⟩

def k1_off1 (i : grid1.Coords) : Fin 1 → Nat :=
  let arg0 : BitVec 32 := BitVec.ofNat 32 (i 0).val
  let c512_i32 : BitVec 32 := 512#32
  let v0 : BitVec 32 := Scalar.muli arg0 c512_i32
  ![v0.toNat]
@[reducible] def k1_t1_loop : Scf.Loop 32 :=
  let c0_i32_0 : BitVec 32 := 0#32
  let c64_i32 : BitVec 32 := 64#32
  let v5 : BitVec 32 := Scalar.addi c0_i32_0 c64_i32
  let c1_i32 : BitVec 32 := 1#32
  ⟨c0_i32_0, v5, c1_i32⟩
@[reducible] def k1_t2_loop : Scf.Loop 32 :=
  let c0_i32_3 : BitVec 32 := 0#32
  let c8_i32_4 : BitVec 32 := 8#32
  let v8 : BitVec 32 := Scalar.addi c0_i32_3 c8_i32_4
  let c1_i32_5 : BitVec 32 := 1#32
  ⟨c0_i32_3, v8, c1_i32_5⟩
def k1_off2 (k1_t1 : Fin k1_t1_loop.trips) (k1_t2 : Fin k1_t2_loop.trips) : Fin 1 → Nat :=
  let c0_i32_2 : BitVec 32 := 0#32
  let c0_i32_0 : BitVec 32 := 0#32
  let c1_i32 : BitVec 32 := 1#32
  let arg9 : BitVec 32 := Scf.iv c0_i32_0 c1_i32 k1_t1
  let c8_i32 : BitVec 32 := 8#32
  let v6 : BitVec 32 := Scalar.muli arg9 c8_i32
  let v7 : BitVec 32 := Scalar.addi c0_i32_2 v6
  let c0_i32_16 : BitVec 32 := 0#32
  let c0_i32_3 : BitVec 32 := 0#32
  let c1_i32_5 : BitVec 32 := 1#32
  let arg10 : BitVec 32 := Scf.iv c0_i32_3 c1_i32_5 k1_t2
  let c1_i32_15 : BitVec 32 := 1#32
  let v11 : BitVec 32 := Scalar.muli arg10 c1_i32_15
  let v12 : BitVec 32 := Scalar.addi c0_i32_16 v11
  let v15 : BitVec 32 := Scalar.addi v7 v12
  let v16 : Index := Scalar.indexCast v15
  ![v16.toNat]
def k1_mult1 (i : grid1.Coords) (k1_t1 : Fin k1_t1_loop.trips) (k1_t2 : Fin k1_t2_loop.trips) : BitVec 32 :=
  let arg0 : BitVec 32 := BitVec.ofNat 32 (i 0).val
  let c512_i32 : BitVec 32 := 512#32
  let v0 : BitVec 32 := Scalar.muli arg0 c512_i32
  let c0_i32_2 : BitVec 32 := 0#32
  let c0_i32_0 : BitVec 32 := 0#32
  let c1_i32 : BitVec 32 := 1#32
  let arg9 : BitVec 32 := Scf.iv c0_i32_0 c1_i32 k1_t1
  let c8_i32 : BitVec 32 := 8#32
  let v6 : BitVec 32 := Scalar.muli arg9 c8_i32
  let v7 : BitVec 32 := Scalar.addi c0_i32_2 v6
  let v13 : BitVec 32 := Scalar.addi v0 v7
  let c0_i32_16 : BitVec 32 := 0#32
  let c0_i32_3 : BitVec 32 := 0#32
  let c1_i32_5 : BitVec 32 := 1#32
  let arg10 : BitVec 32 := Scf.iv c0_i32_3 c1_i32_5 k1_t2
  let c1_i32_15 : BitVec 32 := 1#32
  let v11 : BitVec 32 := Scalar.muli arg10 c1_i32_15
  let v12 : BitVec 32 := Scalar.addi c0_i32_16 v11
  let v14 : BitVec 32 := Scalar.addi v13 v12
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c8_i32_17 : BitVec 32 := 8#32
  let c0_i32_20 : BitVec 32 := 0#32
  let v24 : BitVec 1 := Scalar.cmpi .sgt c8_i32_17 c0_i32_20
  let v25 : BitVec 32 := Scalar.extui v24
  let c0_i32_21 : BitVec 32 := 0#32
  let v26 : BitVec 1 := Scalar.cmpi .slt c8_i32_17 c0_i32_21
  let v27 : BitVec 32 := Scalar.extui v26
  let v28 : BitVec 32 := Scalar.subi v25 v27
  let v29 : BitVec 1 := Scalar.cmpi .ne v23 v28
  let v30 : BitVec 32 := Scalar.remsi v14 c8_i32_17
  let c0_i32_22 : BitVec 32 := 0#32
  let v31 : BitVec 1 := Scalar.cmpi .ne v30 c0_i32_22
  let v32 : BitVec 1 := Scalar.andi v29 v31
  let v18 : BitVec 32 := Scalar.divsi v14 c8_i32_17
  let c1_i32_23 : BitVec 32 := 1#32
  let v33 : BitVec 32 := Scalar.subi v18 c1_i32_23
  let v34 : BitVec 32 := Scalar.select v32 v33 v18
  let c8_i32_24 : BitVec 32 := 8#32
  let v35 : BitVec 32 := Scalar.muli v34 c8_i32_24
  v35
def k1_mult2 (v17 : BitVec 32) : BitVec 32 :=
  let c0_i32_25 : BitVec 32 := 0#32
  let v38 : BitVec 1 := Scalar.cmpi .sgt v17 c0_i32_25
  let v39 : BitVec 32 := Scalar.extui v38
  let c0_i32_26 : BitVec 32 := 0#32
  let v40 : BitVec 1 := Scalar.cmpi .slt v17 c0_i32_26
  let v41 : BitVec 32 := Scalar.extui v40
  let v42 : BitVec 32 := Scalar.subi v39 v41
  let c128_i32 : BitVec 32 := 128#32
  let c0_i32_27 : BitVec 32 := 0#32
  let v43 : BitVec 1 := Scalar.cmpi .sgt c128_i32 c0_i32_27
  let v44 : BitVec 32 := Scalar.extui v43
  let c0_i32_28 : BitVec 32 := 0#32
  let v45 : BitVec 1 := Scalar.cmpi .slt c128_i32 c0_i32_28
  let v46 : BitVec 32 := Scalar.extui v45
  let v47 : BitVec 32 := Scalar.subi v44 v46
  let v48 : BitVec 1 := Scalar.cmpi .ne v42 v47
  let v49 : BitVec 32 := Scalar.remsi v17 c128_i32
  let c0_i32_29 : BitVec 32 := 0#32
  let v50 : BitVec 1 := Scalar.cmpi .ne v49 c0_i32_29
  let v51 : BitVec 1 := Scalar.andi v48 v50
  let v37 : BitVec 32 := Scalar.divsi v17 c128_i32
  let c1_i32_30 : BitVec 32 := 1#32
  let v52 : BitVec 32 := Scalar.subi v37 c1_i32_30
  let v53 : BitVec 32 := Scalar.select v51 v52 v37
  let c128_i32_31 : BitVec 32 := 128#32
  let v54 : BitVec 32 := Scalar.muli v53 c128_i32_31
  v54

def k1_off3 (k1_t2 : Fin k1_t2_loop.trips) : Fin 3 → Nat :=
  let c0_i32_16 : BitVec 32 := 0#32
  let c0_i32_3 : BitVec 32 := 0#32
  let c1_i32_5 : BitVec 32 := 1#32
  let arg10 : BitVec 32 := Scf.iv c0_i32_3 c1_i32_5 k1_t2
  let c1_i32_15 : BitVec 32 := 1#32
  let v11 : BitVec 32 := Scalar.muli arg10 c1_i32_15
  let v12 : BitVec 32 := Scalar.addi c0_i32_16 v11
  let c0_i32_32 : BitVec 32 := 0#32
  let c0_i32_33 : BitVec 32 := 0#32
  ![v12.toNat, 0, 0]
def k1_off4 (i : grid1.Coords) (k1_t1 : Fin k1_t1_loop.trips) (k1_t2 : Fin k1_t2_loop.trips) (v17 : BitVec 32) : Fin 2 → Nat :=
  let arg0 : BitVec 32 := BitVec.ofNat 32 (i 0).val
  let c512_i32 : BitVec 32 := 512#32
  let v0 : BitVec 32 := Scalar.muli arg0 c512_i32
  let c0_i32_2 : BitVec 32 := 0#32
  let c0_i32_0 : BitVec 32 := 0#32
  let c1_i32 : BitVec 32 := 1#32
  let arg9 : BitVec 32 := Scf.iv c0_i32_0 c1_i32 k1_t1
  let c8_i32 : BitVec 32 := 8#32
  let v6 : BitVec 32 := Scalar.muli arg9 c8_i32
  let v7 : BitVec 32 := Scalar.addi c0_i32_2 v6
  let v13 : BitVec 32 := Scalar.addi v0 v7
  let c0_i32_16 : BitVec 32 := 0#32
  let c0_i32_3 : BitVec 32 := 0#32
  let c1_i32_5 : BitVec 32 := 1#32
  let arg10 : BitVec 32 := Scf.iv c0_i32_3 c1_i32_5 k1_t2
  let c1_i32_15 : BitVec 32 := 1#32
  let v11 : BitVec 32 := Scalar.muli arg10 c1_i32_15
  let v12 : BitVec 32 := Scalar.addi c0_i32_16 v11
  let v14 : BitVec 32 := Scalar.addi v13 v12
  let c0_i32_18 : BitVec 32 := 0#32
  let v19 : BitVec 1 := Scalar.cmpi .sgt v14 c0_i32_18
  let v20 : BitVec 32 := Scalar.extui v19
  let c0_i32_19 : BitVec 32 := 0#32
  let v21 : BitVec 1 := Scalar.cmpi .slt v14 c0_i32_19
  let v22 : BitVec 32 := Scalar.extui v21
  let v23 : BitVec 32 := Scalar.subi v20 v22
  let c8_i32_17 : BitVec 32 := 8#32
  let c0_i32_20 : BitVec 32 := 0#32
  let v24 : BitVec 1 := Scalar.cmpi .sgt c8_i32_17 c0_i32_20
  let v25 : BitVec 32 := Scalar.extui v24
  let c0_i32_21 : BitVec 32 := 0#32
  let v26 : BitVec 1 := Scalar.cmpi .slt c8_i32_17 c0_i32_21
  let v27 : BitVec 32 := Scalar.extui v26
  let v28 : BitVec 32 := Scalar.subi v25 v27
  let v29 : BitVec 1 := Scalar.cmpi .ne v23 v28
  let v30 : BitVec 32 := Scalar.remsi v14 c8_i32_17
  let c0_i32_22 : BitVec 32 := 0#32
  let v31 : BitVec 1 := Scalar.cmpi .ne v30 c0_i32_22
  let v32 : BitVec 1 := Scalar.andi v29 v31
  let v18 : BitVec 32 := Scalar.divsi v14 c8_i32_17
  let c1_i32_23 : BitVec 32 := 1#32
  let v33 : BitVec 32 := Scalar.subi v18 c1_i32_23
  let v34 : BitVec 32 := Scalar.select v32 v33 v18
  let c8_i32_24 : BitVec 32 := 8#32
  let v35 : BitVec 32 := Scalar.muli v34 c8_i32_24
  let v36 : BitVec 32 := v35
  let c0_i32_25 : BitVec 32 := 0#32
  let v38 : BitVec 1 := Scalar.cmpi .sgt v17 c0_i32_25
  let v39 : BitVec 32 := Scalar.extui v38
  let c0_i32_26 : BitVec 32 := 0#32
  let v40 : BitVec 1 := Scalar.cmpi .slt v17 c0_i32_26
  let v41 : BitVec 32 := Scalar.extui v40
  let v42 : BitVec 32 := Scalar.subi v39 v41
  let c128_i32 : BitVec 32 := 128#32
  let c0_i32_27 : BitVec 32 := 0#32
  let v43 : BitVec 1 := Scalar.cmpi .sgt c128_i32 c0_i32_27
  let v44 : BitVec 32 := Scalar.extui v43
  let c0_i32_28 : BitVec 32 := 0#32
  let v45 : BitVec 1 := Scalar.cmpi .slt c128_i32 c0_i32_28
  let v46 : BitVec 32 := Scalar.extui v45
  let v47 : BitVec 32 := Scalar.subi v44 v46
  let v48 : BitVec 1 := Scalar.cmpi .ne v42 v47
  let v49 : BitVec 32 := Scalar.remsi v17 c128_i32
  let c0_i32_29 : BitVec 32 := 0#32
  let v50 : BitVec 1 := Scalar.cmpi .ne v49 c0_i32_29
  let v51 : BitVec 1 := Scalar.andi v48 v50
  let v37 : BitVec 32 := Scalar.divsi v17 c128_i32
  let c1_i32_30 : BitVec 32 := 1#32
  let v52 : BitVec 32 := Scalar.subi v37 c1_i32_30
  let v53 : BitVec 32 := Scalar.select v51 v52 v37
  let c128_i32_31 : BitVec 32 := 128#32
  let v54 : BitVec 32 := Scalar.muli v53 c128_i32_31
  let v55 : BitVec 32 := v54
  ![v36.toNat, v55.toNat]

def k1_chk1 (i : grid1.Coords) (k1_t1 : Fin k1_t1_loop.trips) (k1_t2 : Fin k1_t2_loop.trips) (v17 : BitVec 32) : Prop :=
  (128 ∣ (k1_mult2 v17).toNat) ∧
  (∀ a, (k1_off4 i k1_t1 k1_t2 v17) a + S8x128.size a ≤ S1024x100096.size a)
theorem k1_mult2_dvd : ∀ (i : grid1.Coords) (k1_t1 : Fin k1_t1_loop.trips) (k1_t2 : Fin k1_t2_loop.trips) (v17 : BitVec 32) (k1_hw1 : k1_chk1 i k1_t1 k1_t2 v17), 128 ∣ (k1_mult2 v17).toNat := fun i k1_t1 k1_t2 v17 k1_hw1 => k1_hw1.1
theorem k1_off4_inb : ∀ (i : grid1.Coords) (k1_t1 : Fin k1_t1_loop.trips) (k1_t2 : Fin k1_t2_loop.trips) (v17 : BitVec 32) (k1_hw1 : k1_chk1 i k1_t1 k1_t2 v17), ∀ a, (k1_off4 i k1_t1 k1_t2 v17) a + S8x128.size a ≤ S1024x100096.size a := fun i k1_t1 k1_t2 v17 k1_hw1 => k1_hw1.2

@[reducible] def k1_t3_loop : Scf.Loop 32 :=
  let c0_i32_7 : BitVec 32 := 0#32
  let c8_i32_8 : BitVec 32 := 8#32
  let v9 : BitVec 32 := Scalar.addi c0_i32_7 c8_i32_8
  let c1_i32_9 : BitVec 32 := 1#32
  ⟨c0_i32_7, v9, c1_i32_9⟩
def k1_off5 (k1_t3 : Fin k1_t3_loop.trips) : Fin 3 → Nat :=
  let c0_i32_16 : BitVec 32 := 0#32
  let c0_i32_7 : BitVec 32 := 0#32
  let c1_i32_9 : BitVec 32 := 1#32
  let arg10 : BitVec 32 := Scf.iv c0_i32_7 c1_i32_9 k1_t3
  let c1_i32_15 : BitVec 32 := 1#32
  let v11 : BitVec 32 := Scalar.muli arg10 c1_i32_15
  let v12 : BitVec 32 := Scalar.addi c0_i32_16 v11
  let c0_i32_17 : BitVec 32 := 0#32
  let c0_i32_18 : BitVec 32 := 0#32
  ![v12.toNat, 0, 0]
@[reducible] def k1_t4_loop : Scf.Loop 32 :=
  let c0_i32_11 : BitVec 32 := 0#32
  let c8_i32_12 : BitVec 32 := 8#32
  let v10 : BitVec 32 := Scalar.addi c0_i32_11 c8_i32_12
  let c1_i32_13 : BitVec 32 := 1#32
  ⟨c0_i32_11, v10, c1_i32_13⟩
def k1_off6 (k1_t1 : Fin k1_t1_loop.trips) (k1_t4 : Fin k1_t4_loop.trips) : Fin 1 → Nat :=
  let c0_i32_2 : BitVec 32 := 0#32
  let c0_i32_0 : BitVec 32 := 0#32
  let c1_i32 : BitVec 32 := 1#32
  let arg9 : BitVec 32 := Scf.iv c0_i32_0 c1_i32 k1_t1
  let c8_i32 : BitVec 32 := 8#32
  let v6 : BitVec 32 := Scalar.muli arg9 c8_i32
  let v7 : BitVec 32 := Scalar.addi c0_i32_2 v6
  let c0_i32_16 : BitVec 32 := 0#32
  let c0_i32_11 : BitVec 32 := 0#32
  let c1_i32_13 : BitVec 32 := 1#32
  let arg10 : BitVec 32 := Scf.iv c0_i32_11 c1_i32_13 k1_t4
  let c1_i32_15 : BitVec 32 := 1#32
  let v11 : BitVec 32 := Scalar.muli arg10 c1_i32_15
  let v12 : BitVec 32 := Scalar.addi c0_i32_16 v11
  let v15 : BitVec 32 := Scalar.addi v7 v12
  let v16 : Index := Scalar.indexCast v15
  ![v16.toNat]
def k1_off7 (i : grid1.Coords) (k1_t1 : Fin k1_t1_loop.trips) (k1_t4 : Fin k1_t4_loop.trips) (v17 : BitVec 32) : Fin 3 → Nat :=
  let c0_i32_16 : BitVec 32 := 0#32
  let c0_i32_11 : BitVec 32 := 0#32
  let c1_i32_13 : BitVec 32 := 1#32
  let arg10 : BitVec 32 := Scf.iv c0_i32_11 c1_i32_13 k1_t4
  let c1_i32_15 : BitVec 32 := 1#32
  let v11 : BitVec 32 := Scalar.muli arg10 c1_i32_15
  let v12 : BitVec 32 := Scalar.addi c0_i32_16 v11
  let v40 : Index := Scalar.indexCast v12
  let arg0 : BitVec 32 := BitVec.ofNat 32 (i 0).val
  let c512_i32 : BitVec 32 := 512#32
  let v0 : BitVec 32 := Scalar.muli arg0 c512_i32
  let c0_i32_2 : BitVec 32 := 0#32
  let c0_i32_0 : BitVec 32 := 0#32
  let c1_i32 : BitVec 32 := 1#32
  let arg9 : BitVec 32 := Scf.iv c0_i32_0 c1_i32 k1_t1
  let c8_i32 : BitVec 32 := 8#32
  let v6 : BitVec 32 := Scalar.muli arg9 c8_i32
  let v7 : BitVec 32 := Scalar.addi c0_i32_2 v6
  let v13 : BitVec 32 := Scalar.addi v0 v7
  let v14 : BitVec 32 := Scalar.addi v13 v12
  let c8_i32_18 : BitVec 32 := 8#32
  let c0_i32_19 : BitVec 32 := 0#32
  let v20 : BitVec 1 := Scalar.cmpi .eq c8_i32_18 c0_i32_19
  let c1_i32_20 : BitVec 32 := 1#32
  let v21 : BitVec 32 := Scalar.select v20 c1_i32_20 c8_i32_18
  let v22 : BitVec 32 := Scalar.remsi v14 v21
  let c0_i32_22 : BitVec 32 := 0#32
  let v24 : BitVec 1 := Scalar.cmpi .slt v22 c0_i32_22
  let c0_i32_23 : BitVec 32 := 0#32
  let v25 : BitVec 1 := Scalar.cmpi .slt v21 c0_i32_23
  let v26 : BitVec 1 := Scalar.xori v24 v25
  let c0_i32_21 : BitVec 32 := 0#32
  let v23 : BitVec 1 := Scalar.cmpi .ne v22 c0_i32_21
  let v27 : BitVec 1 := Scalar.andi v26 v23
  let v28 : BitVec 32 := Scalar.addi v22 v21
  let v29 : BitVec 32 := Scalar.select v27 v28 v22
  let v41 : Index := Scalar.indexCast v29
  let c128_i32 : BitVec 32 := 128#32
  let c0_i32_24 : BitVec 32 := 0#32
  let v30 : BitVec 1 := Scalar.cmpi .eq c128_i32 c0_i32_24
  let c1_i32_25 : BitVec 32 := 1#32
  let v31 : BitVec 32 := Scalar.select v30 c1_i32_25 c128_i32
  let v32 : BitVec 32 := Scalar.remsi v17 v31
  let c0_i32_27 : BitVec 32 := 0#32
  let v34 : BitVec 1 := Scalar.cmpi .slt v32 c0_i32_27
  let c0_i32_28 : BitVec 32 := 0#32
  let v35 : BitVec 1 := Scalar.cmpi .slt v31 c0_i32_28
  let v36 : BitVec 1 := Scalar.xori v34 v35
  let c0_i32_26 : BitVec 32 := 0#32
  let v33 : BitVec 1 := Scalar.cmpi .ne v32 c0_i32_26
  let v37 : BitVec 1 := Scalar.andi v36 v33
  let v38 : BitVec 32 := Scalar.addi v32 v31
  let v39 : BitVec 32 := Scalar.select v37 v38 v32
  let v42 : Index := Scalar.indexCast v39
  ![v40.toNat, v41.toNat, v42.toNat]

def k1_chk2 (i : grid1.Coords) (k1_t1 : Fin k1_t1_loop.trips) (k1_t4 : Fin k1_t4_loop.trips) (v17 : BitVec 32) : Prop :=
  (∀ a, (k1_off7 i k1_t1 k1_t4 v17) a + S1x1x1.size a ≤ S8x8x128.size a)
theorem k1_off7_inb : ∀ (i : grid1.Coords) (k1_t1 : Fin k1_t1_loop.trips) (k1_t4 : Fin k1_t4_loop.trips) (v17 : BitVec 32) (k1_hw2 : k1_chk2 i k1_t1 k1_t4 v17), ∀ a, (k1_off7 i k1_t1 k1_t4 v17) a + S1x1x1.size a ≤ S8x8x128.size a := fun i k1_t1 k1_t4 v17 k1_hw2 => k1_hw2

def k1_off8 (i : grid1.Coords) : Fin 2 → Nat :=
  let arg0 : BitVec 32 := BitVec.ofNat 32 (i 0).val
  let c0_i32_2_r0 : BitVec 32 := 0#32
  ![arg0.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S_, .i32⟩
  | .hbm, ⟨4, _⟩ => ⟨S1024x1, .i32⟩
  | .hbm, ⟨5, _⟩ => ⟨S1024x1, .i1⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x1, .i32⟩
  | .hbm, ⟨10, _⟩ => ⟨S1024x1x1, .i32⟩
  | .hbm, ⟨11, _⟩ => ⟨S1, .i32⟩
  | .hbm, ⟨12, _⟩ => ⟨S_, .i32⟩
  | .hbm, ⟨13, _⟩ => ⟨S1024x1x1, .i32⟩
  | .hbm, ⟨14, _⟩ => ⟨S1024x1x1, .i1⟩
  | .hbm, ⟨15, _⟩ => ⟨S1x1x1, .i32⟩
  | .hbm, ⟨16, _⟩ => ⟨S1024x1x1, .i32⟩
  | .hbm, ⟨17, _⟩ => ⟨S1024x1x1, .i1⟩
  | .hbm, ⟨18, _⟩ => ⟨S1024x1x1, .i1⟩
  | .hbm, ⟨19, _⟩ => ⟨S_, .i1⟩
  | .hbm, ⟨20, _⟩ => ⟨S1024x1, .i1⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_cst_0 : Ref sig .tc := ⟨.hbm, 27, rfl⟩
abbrev main_v3 : Ref sig .tc := ⟨.hbm, 28, rfl⟩
abbrev main_cst_1 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_cst_3 : Ref sig .tc := ⟨.hbm, 33, rfl⟩
abbrev main_v6 : Ref sig .tc := ⟨.hbm, 34, rfl⟩
abbrev main_v7 : Ref sig .tc := ⟨.hbm, 35, rfl⟩

abbrev nD : Nat := 1
abbrev τ : Topo := Topo.v7x

variable {F : FTy → Type} [FloatOps F]
-- ==== Proof.Setup.lean ====
/-
  The kernel's program as the SparseCore launch theorem sees it, and the names that the other modules share: the label
  signature, the launch configuration and its facts, and the resource algebra. The algebra has three parts: the rounds of
  the SparseCore handshakes, the rounds of the TensorCore pipeline, and the counters of the SparseCore's copies.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Ring
public import Idealize.ShloMosaic.Lib.Batch
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S T)
open Idealize.ShloMosaic.SparseCore.Cfg (HIx)
open Idealize.SL Idealize.SL.RA Idealize.SL.Sem

variable {F : FTy → Type}

/-- The labels of the program under the launch: the pipeline's over the kernels'. -/
abbrev ΛP : Labels := Pipeline.Sig Λ₀ (Fin 1) fun p => (pcfgs (F := F) p).Adm
/-- The SparseCore launch of the program. -/
abbrev K : SparseCore.Cfg τ sig (ΛP (F := F)) 1 := sc (F := F)
/-- The bodies below the launch's handshakes. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are apart and unscoped, and no buffer of a SparseCore is dealt to its tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipeline's rounds, and the two beside the counters of the copies. -/
abbrev UH : Type := Rounds.URounds (GSem nD τ sig) ℕ
abbrev UP : Type := UR sig nD τ
abbrev UU : Type := UH × (UP × Counters)

/-- The handshakes' rounds are the left part. -/
abbrev EH : Emb UH (MT nD τ sig (HIx 1) (Elt F) ℕ UU ℕ) := embL
/-- The pipeline's rounds are the left of the right part. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

end Cert.Proof

end
-- ==== Proof.Words.lean ====
/-
  The offset words of the SparseCore kernel in closed form.

  The kernel turns a target column `v` into the 128-wide block that holds it (a floor division by 128) and the lane
  inside that block (a remainder by 128), and the row into a block of eight rows and a sublane. Each of these is printed
  as a chain of 32-bit words; for a column in the table the chains are the numbers they mean.
-/
module

public import proofs.«01_k».proof.Proof.Gen.KernelIdeal

@[expose] public section

namespace Cert.Proof.Words

open Cert.KernelIdeal Cert.KernelIdeal.Gen
open Idealize.ShloMosaic

/-- A word below 2^31 reads the same signed and unsigned. -/
theorem isInt_word {v : BitVec 32} (hv : v.toNat < 100000) : Affine.IsInt v (v.toNat : Int) := by
  have h := Affine.word v
  rw [BitVec.toInt_eq_toNat_of_lt (by omega)] at h
  exact h

/-- The column chain: 128 times the floor of a column by 128. -/
theorem col_chain {v : BitVec 32} (hv : v.toNat < 100000) : (k1_mult2 v).toNat = v.toNat / 128 * 128 := by
  refine Affine.nat_eq (ea := ((v.toNat / 128 * 128 : Nat) : Int)) ?_ _ rfl
  have h_v := isInt_word hv
  have h0 : Affine.IsInt 0#32 0 := Affine.ofNat _ (by omega)
  have h1 : Affine.IsInt 1#32 1 := Affine.ofNat _ (by omega)
  have h128 : Affine.IsInt 128#32 128 := Affine.ofNat _ (by omega)
  have hlt := Affine.slt_fails h_v h0 (by omega)
  have h22 := Affine.extui_fails hlt (e := 0) (by omega)
  have h47 := Affine.subi (Affine.extui_holds (Affine.sgt_holds h128 h0 (by omega)) (e := 1) (by omega))
    (Affine.extui_fails (Affine.slt_fails h128 h0 (by omega)) (e := 0) (by omega)) (e := 1) (by omega)
  have hq := Affine.divsi h_v h128 (e := (v.toNat : Int) / 128) (by omega)
  have hq1 := Affine.subi hq h1 (e := (v.toNat : Int) / 128 - 1) (by omega)
  rcases Nat.eq_zero_or_pos v.toNat with hz | hp
  · have h20 := Affine.extui_fails (Affine.sgt_fails h_v h0 (by omega)) (e := 0) (by omega)
    have h23 := Affine.subi h20 h22 (e := 0) (by omega)
    have hne := Affine.ne_holds h23 h47 (by omega)
    have hr := Affine.remsi h_v h128 (e := 0) (by omega)
    have hand := Affine.andi_fails_right (Affine.tH hne) (Affine.ne_fails hr h0 (by omega))
    have hs := Affine.select_fails hand hq1 hq (e := (v.toNat : Int) / 128) (by omega)
    exact Affine.relit (Affine.muli hs h128 (e := (v.toNat : Int) / 128 * 128) (by omega)) (by omega)
  · have h20 := Affine.extui_holds (Affine.sgt_holds h_v h0 (by omega)) (e := 1) (by omega)
    have h23 := Affine.subi h20 h22 (e := 1) (by omega)
    have hne := Affine.ne_fails h23 h47 (by omega)
    have hr := Affine.remsi h_v h128 (e := (v.toNat : Int) % 128) (by omega)
    have hand := Affine.andi_fails_left hne (Affine.cmpi_term .ne hr h0)
    have hs := Affine.select_fails hand hq1 hq (e := (v.toNat : Int) / 128) (by omega)
    exact Affine.relit (Affine.muli hs h128 (e := (v.toNat : Int) / 128 * 128) (by omega)) (by omega)

theorem row_chain0 : ∀ (i : grid1.Coords) (t1 : Fin k1_t1_loop.trips) (t2 : Fin k1_t2_loop.trips),
    (k1_mult1 i t1 t2).toNat = 512 * (i 0).val + 8 * t1.val := by decide +kernel

/-- The tile a row's copy takes from the table: the eight rows around it and the 128 columns around its target. -/
theorem off4_eq (i : grid1.Coords) (t1 : Fin k1_t1_loop.trips) (t2 : Fin k1_t2_loop.trips) {v : BitVec 32} (hv : v.toNat < 100000) :
    k1_off4 i t1 t2 v = ![512 * (i 0).val + 8 * t1.val, v.toNat / 128 * 128] := by
  rw [← row_chain0 i t1 t2, ← col_chain hv]; rfl

theorem sub_chain0 : ∀ (i : grid1.Coords) (t1 : Fin k1_t1_loop.trips) (t4 : Fin k1_t4_loop.trips),
    k1_off7 i t1 t4 0#32 0 = t4.val ∧ k1_off7 i t1 t4 0#32 1 = t4.val := by decide +kernel

/-- The word of the tile that a row adds: its slot, its row inside the tile, its target's lane. -/
theorem off7_eq (i : grid1.Coords) (t1 : Fin k1_t1_loop.trips) (t4 : Fin k1_t4_loop.trips) {v : BitVec 32} (hv : v.toNat < 100000) :
    k1_off7 i t1 t4 v = ![t4.val, t4.val, v.toNat % 128] := by
  have h_v := isInt_word hv
  have h0 : Affine.IsInt 0#32 0 := Affine.ofNat _ (by omega)
  have h1 : Affine.IsInt 1#32 1 := Affine.ofNat _ (by omega)
  have h128 : Affine.IsInt 128#32 128 := Affine.ofNat _ (by omega)
  have h31 := Affine.select_fails (Affine.eq_fails h128 h0 (by omega)) h1 h128 (e := 128) (by omega)
  have hr := Affine.remsi h_v h31 (e := (v.toNat : Int) % 128) (by omega)
  have h34 := Affine.slt_fails hr h0 (by omega)
  have h35 := Affine.slt_fails h31 h0 (by omega)
  have h38 := Affine.addi hr h31 (e := (v.toNat : Int) % 128 + 128) (by omega)
  have h36 := Affine.xori_ff h34 h35
  have h37 := Affine.andi_fails_left h36 (Affine.cmpi_term .ne hr h0)
  have h39 := Affine.select_fails h37 h38 hr (e := ((v.toNat % 128 : Nat) : Int)) (by omega)
  have hl := Affine.nat_eq (Affine.indexCast h39) _ rfl
  refine funext fun a => ?_
  fin_cases a
  · exact (sub_chain0 i t1 t4).1
  · exact (sub_chain0 i t1 t4).2
  · exact hl

/-- The first check of the kernel holds of every column in the table. -/
theorem chk1 (i : grid1.Coords) (t1 : Fin k1_t1_loop.trips) (t2 : Fin k1_t2_loop.trips) {v : BitVec 32} (hv : v.toNat < 100000) :
    k1_chk1 i t1 t2 v := by
  refine ⟨by rw [col_chain hv]; exact ⟨_, Nat.mul_comm _ _⟩, ?_⟩
  rw [off4_eq i t1 t2 hv]
  have hi : (i 0).val < 2 := (i 0).isLt
  have ht : t1.val < 64 := t1.isLt
  intro a; fin_cases a
  · show 512 * (i 0).val + 8 * t1.val + 8 ≤ 1024; omega
  · show v.toNat / 128 * 128 + 128 ≤ 100096; omega

/-- So does the second. -/
theorem chk2 (i : grid1.Coords) (t1 : Fin k1_t1_loop.trips) (t4 : Fin k1_t4_loop.trips) {v : BitVec 32} (hv : v.toNat < 100000) :
    k1_chk2 i t1 t4 v := by
  show ∀ a, _
  rw [off7_eq i t1 t4 hv]
  have ht : t4.val < 8 := t4.isLt
  intro a; fin_cases a
  · show t4.val + 1 ≤ 8; omega
  · show t4.val + 1 ≤ 8; omega
  · show v.toNat % 128 + 1 ≤ 128; omega

end Cert.Proof.Words

end
-- ==== Proof.Gather.lean ====
/-
  The SparseCore kernel on one scalar subcore, run with its values.

  Subcore `i` owns rows `512 i … 512 i + 511`. It stages its targets, then in 64 groups of eight rows issues eight copies
  on one semaphore (for each row the 8 × 128 block of the table that holds the row's target column), waits for all
  eight, and adds the eight target elements to a running sum, which it writes to the first column of row `i` of the result.
-/
module

public import proofs.«01_k».proof.Proof.Setup
public import proofs.«01_k».proof.Proof.Words
public import Idealize.ShloMosaic.Lib.VecWindow

@[expose] public section

noncomputable section

namespace Cert.Proof.Gather

open Cert.KernelIdeal Cert.KernelIdeal.Gen Cert.Proof
open Idealize.ShloMosaic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xW" => (Memref.whole Cert.KernelIdeal.main_v2_scs : Memref Cert.KernelIdeal.sig Kind.scScalar Space.hbm Cert.KernelIdeal.S1024x100096 EltTy.f32)
local notation "tW" => (Memref.whole Cert.KernelIdeal.main_arg1_scs : Memref Cert.KernelIdeal.sig Kind.scScalar Space.hbm Cert.KernelIdeal.S1024 EltTy.i32)
local notation "oW" => (Memref.whole Cert.KernelIdeal.main_v3_scs : Memref Cert.KernelIdeal.sig Kind.scScalar Space.hbm Cert.KernelIdeal.S2x8 EltTy.f32)
local notation "vW" => (Memref.whole Cert.KernelIdeal.cc1_scratch0 : Memref Cert.KernelIdeal.sig Kind.scScalar Space.smem Cert.KernelIdeal.S512 EltTy.i32)
local notation "bW" => (Memref.whole Cert.KernelIdeal.cc1_scratch1 : Memref Cert.KernelIdeal.sig Kind.scScalar Space.smem Cert.KernelIdeal.S8x8x128 EltTy.f32)
local notation "aW" => (Memref.whole Cert.KernelIdeal.cc1_scratch2 : Memref Cert.KernelIdeal.sig Kind.scScalar Space.smem Cert.KernelIdeal.S1 EltTy.f32)

/-! ## What the kernel computes -/

/-- The table's element at row `r`, column `c`. -/
def xAt (x : S1024x100096.Idx → Elt F .f32) (r c : ℕ) : Elt F .f32 :=
  x fun a => match a with
    | 0 => ⟨r % 1024, Nat.mod_lt _ (by decide)⟩
    | 1 => ⟨c % 100096, Nat.mod_lt _ (by decide)⟩

/-- Row `r`'s target column. -/
def tAt (t : S1024.Idx → BitVec 32) (r : ℕ) : BitVec 32 := t fun a => match a with | 0 => ⟨r % 1024, Nat.mod_lt _ (by decide)⟩

/-- The element of row `r` under the row's target column. -/
def pick (x : S1024x100096.Idx → Elt F .f32) (t : S1024.Idx → BitVec 32) (r : ℕ) : Elt F .f32 := xAt x r (tAt t r).toNat

/-- Subcore `c`'s running sum after `n` of its rows: the picked elements added in order to zero. -/
def accN (x : S1024x100096.Idx → Elt F .f32) (t : S1024.Idx → BitVec 32) (c : ℕ) : ℕ → Elt F .f32
  | 0 => Scalar.ofBits .f32 0x00000000#32
  | n + 1 => Scalar.addf (φ := .f32) (accN x t c n) (pick x t (512 * c + n))

/-- Subcore `c`'s targets, as staged. -/
def vals (t : S1024.Idx → BitVec 32) (c : ℕ) : S512.Idx → Elt F .i32 := fun j => tAt t (512 * c + (j 0).val)

/-- The eight blocks that group `g` of subcore `c` stages: block `r` is the 128-aligned block of columns around row
    `512 c + 8 g + r`'s target, in the group's eight rows. -/
def stage (x : S1024x100096.Idx → Elt F .f32) (t : S1024.Idx → BitVec 32) (c g : ℕ) : S8x8x128.Idx → Elt F .f32 :=
  fun j => xAt x (512 * c + 8 * g + (j 1).val) ((tAt t (512 * c + 8 * g + (j 0).val)).toNat / 128 * 128 + (j 2).val)

section Body

variable (d : Dev nD) (i : grid1.Coords)
variable (x : S1024x100096.Idx → Elt F .f32) (t : S1024.Idx → BitVec 32) (ht : ∀ j, (t j).toNat < 100000)

/-- Subcore `i`'s thread. -/
abbrev Si : Thread nD τ := S d ((i 0).castLE hcore1)

include ht in
omit [FloatOps F] in
theorem tAt_lt (r : ℕ) : (tAt t r).toNat < 100000 := ht _

/-- The target of row `r` of group `g`, read by the kernel. -/
abbrev tv (t1 : Fin k1_t1_loop.trips) (r : ℕ) : BitVec 32 := tAt t (512 * (i 0).val + (8 * t1.val + r))

/-- The block of the table copied for row `r` of group `t1`. -/
def tileM (t1 : Fin k1_t1_loop.trips) (r : Fin k1_t2_loop.trips) : Memref sig .scScalar .hbm S8x128 .f32 :=
  (xW).slice (Rect.unit (s := S1024x100096) (k1_off4 i t1 r (tv i t t1 r)) S8x128.size
    (k1_off4_inb i t1 r _ (Words.chk1 i t1 r (tAt_lt t ht _)))) (fun _ => rfl)

/-- The slot of the staging scratch that it is copied to. -/
def slotM (r : Fin k1_t2_loop.trips) : Memref sig .scScalar .smem S8x128 .f32 :=
  ((bW).slice (Rect.unit (s := S8x8x128) (k1_off3 r) S1x8x128.size (k1_off3_inb r)) (fun _ => rfl)).squeeze S8x128 squeezes_S1x8x128_S8x128

/-- The block under its read share of the table; -/
abbrev tileP (q : PosShare TreeShare) (t1 : Fin k1_t1_loop.trips) (r : Fin k1_t2_loop.trips) : sProp 𝕄 :=
  (tileM i t ht t1 r).view.loc (Si d i) ↦[(tileM i t ht t1 r).view.set]{Transfers.shareTokN q r.val} x
/-- the slot at contents `f`. -/
abbrev slotP (r : Fin k1_t2_loop.trips) (f : S8x8x128.Idx → Elt F .f32) : sProp 𝕄 :=
  (slotM r).view.loc (Si d i) ↦[(slotM r).view.set]{fullShare} f

/-- What copy `r` of group `t1` delivers: the slot at the staged values, and the share of the block. -/
abbrev delivers (q : PosShare TreeShare) (t1 : Fin k1_t1_loop.trips) (r : Fin k1_t2_loop.trips) : sProp 𝕄 :=
  iprop(slotP d i r (stage x t (i 0).val t1.val) ∗ tileP d i x t ht q t1 r)

/-- Held elements are an assertion about resources alone. -/
theorem storable_pts {ℓ : Loc nD τ sig} (I : Finset (Idx ℓ)) (q : PosShare TreeShare) (f : Buf (Elt F) ℓ) :
    Storable (upEmb : UEmb _ 𝕄) (ℓ ↦[I]{q} f : sProp 𝕄) := inferInstance

instance delivers_storable (q : PosShare TreeShare) (t1 : Fin k1_t1_loop.trips) (r : Fin k1_t2_loop.trips) :
    Storable (upEmb : UEmb _ 𝕄) (delivers d i x t ht q t1 r) :=
  @Storable.sep _ _ _ _ _ _ _ _ (storable_pts _ _ _) (storable_pts _ _ _)

/-- The credit of one copy on the semaphore. -/
abbrev NN : ℕ := Ref.dmaCredit (sig := sig) cc1_scratch1 S8x128 .f32

theorem NN_pos : 0 < NN := sig.dmaCredit_pos _ _ _ _ _ (show 0 < S8x128.numel by decide)

omit [FloatOps F] in
/-- A group's batch on the copies' semaphore: `j` copies issued, `u` units of credit consumed. -/
abbrev batch (q : PosShare TreeShare) (t1 : Fin k1_t1_loop.trips) (j u : ℕ) : sProp 𝕄 :=
  Transfers.Batch (countersEmb (U := UU)) (Si d i) (.dma cc1_scratch4.sem) (none : HIx 1) NN (delivers d i x t ht q t1) j u

/-- Before copy `k` of a group: `k` copies issued; the later slots and blocks in hand; the staged targets. -/
def issueAt (q : PosShare TreeShare) (t1 : Fin k1_t1_loop.trips) (k : ℕ) (_ : Unit) : sProp 𝕄 :=
  iprop(batch d i x t ht q t1 k 0
    ∗ (bigSep (Ring.rangeSet k1_t2_loop.trips k k1_t2_loop.trips) fun r => iprop((∃ f, slotP d i r f) ∗ tileP d i x t ht q t1 r))
    ∗ ((vW).view.loc (Si d i) ↦{fullShare} vals (F := F) t (i 0).val))

/-! ### What the copies read and land -/

omit [FloatOps F] in
/-- The element at an index is the element at its two coordinates. -/
theorem xAt_of {r c : ℕ} (y : S1024x100096.Idx) (h0 : (y 0).val = r) (h1 : (y 1).val = c) : xAt x r c = x y := by
  subst h0; subst h1
  unfold xAt
  congr 1
  funext a
  match a with
  | 0 => exact Fin.ext (Nat.mod_eq_of_lt (y 0).isLt)
  | 1 => exact Fin.ext (Nat.mod_eq_of_lt (y 1).isLt)

omit [FloatOps F] in
/-- The target at an index is the target of its row. -/
theorem tAt_of {r : ℕ} (y : S1024.Idx) (h0 : (y 0).val = r) : tAt t r = t y := by
  subst h0
  unfold tAt
  congr 1
  funext a
  match a with
  | 0 => exact Fin.ext (Nat.mod_eq_of_lt (y 0).isLt)

/-- The index of the staging scratch under index `z` of slot `r`, -/
def slotIx (r : Fin k1_t2_loop.trips) (z : S8x128.Idx) : S8x8x128.Idx := (slotM r).view.emb z
/-- which is `(r, z)`, coordinate by coordinate. -/
theorem slot_emb0 (r : Fin k1_t2_loop.trips) (z : S8x128.Idx) : (slotIx r z 0).val = r.val := by
  change k1_off3 r 0 + 1 * ((Shape.reshapeEquiv (s := S1x8x128) squeezes_S1x8x128_S8x128.numel_eq z) 0).val = _
  rw [show k1_off3 r 0 = r.val from congrFun (k1_off3_eq r) 0, Shape.reshapeEquiv_cons_one]
  show r.val + 1 * 0 = r.val
  omega
theorem slot_emb1 (r : Fin k1_t2_loop.trips) (z : S8x128.Idx) : (slotIx r z 1).val = (z 0).val := by
  change k1_off3 r 1 + 1 * ((Shape.reshapeEquiv (s := S1x8x128) squeezes_S1x8x128_S8x128.numel_eq z) 1).val = _
  rw [show k1_off3 r 1 = 0 from congrFun (k1_off3_eq r) 1, Shape.reshapeEquiv_cons_one]
  show 0 + 1 * (z 0).val = (z 0).val
  omega
theorem slot_emb2 (r : Fin k1_t2_loop.trips) (z : S8x128.Idx) : (slotIx r z 2).val = (z 1).val := by
  change k1_off3 r 2 + 1 * ((Shape.reshapeEquiv (s := S1x8x128) squeezes_S1x8x128_S8x128.numel_eq z) 2).val = _
  rw [show k1_off3 r 2 = 0 from congrFun (k1_off3_eq r) 2, Shape.reshapeEquiv_cons_one]
  show 0 + 1 * (z 1).val = (z 1).val
  omega

omit [FloatOps F] in
/-- A copy's contents, landed in its slot, are the staged values there. -/
theorem landed (t1 : Fin k1_t1_loop.trips) (r : Fin k1_t2_loop.trips) (f : S8x8x128.Idx → Elt F .f32) :
    ∀ y ∈ (slotM r).view.set,
      (slotM r).view.write (Elt F) f ((tileM i t ht t1 r).view.read (Elt F) x) Finset.univ y = stage x t (i 0).val t1.val y := by
  intro y hy
  obtain ⟨z, -, rfl⟩ := Finset.mem_map.mp hy
  refine (View.write_emb_of_mem _ _ (Finset.mem_univ z)).trans ?_
  change x ((Rect.unit (s := S1024x100096) (k1_off4 i t1 r (tv i t t1 r)) S8x128.size _).emb z) = stage x t (i 0).val t1.val (slotIx r z)
  unfold stage
  have ho := Words.off4_eq i t1 r (tAt_lt t ht (512 * (i 0).val + (8 * t1.val + r.val)))
  refine (xAt_of x _ ?_ ?_).symm
  · rw [slot_emb1]
    change k1_off4 i t1 r (tv i t t1 r) 0 + 1 * (z 0).val = _
    rw [show k1_off4 i t1 r (tv i t t1 r) 0 = 512 * (i 0).val + 8 * t1.val from congrFun ho 0]
    omega
  · rw [slot_emb2, slot_emb0]
    change k1_off4 i t1 r (tv i t t1 r) 1 + 1 * (z 1).val = _
    rw [show k1_off4 i t1 r (tv i t t1 r) 1 = (tv i t t1 r).toNat / 128 * 128 from congrFun ho 1]
    simp only [tv, Nat.add_assoc, Nat.one_mul]

/-! ### The issue loop -/

theorem issue_step (q : PosShare TreeShare) (t1 : Fin k1_t1_loop.trips) (v0 v7 : BitVec 32) (k : Fin k1_t2_loop.trips) (u : Unit) :
    issueAt d i x t ht q t1 k.val u ⊢ wp frame (wpE (defs₀ (F := F)) 𝒱₀ (Si d i) none) Set.univ
      (k1_t2_body i xW (Memref.isWhole_whole _) tW (Memref.isWhole_whole _) oW (Memref.isWhole_whole _) vW (Memref.isWhole_whole _)
        bW (Memref.isWhole_whole _) aW (Memref.isWhole_whole _) cc1_scratch3 cc1_scratch4 cc1_scoped0 v0 t1 v7 k u)
      (issueAt d i x t ht q t1 (k.val + 1)) := by
  unfold issueAt
  rw [Ring.bigSep_rangeSet_head (by exact k.isLt) (by exact k.isLt)]
  iintro ⟨HB, ⟨⟨⟨%f, Hs⟩, Ht⟩, Hr⟩, Hv⟩
  unfold k1_t2_body
  rw [k1_part1_eq_skeleton]
  unfold k1_part1_skel
  sl_exec
  have hr : issue_step.sl.r (F := F) i t t1 k = tv i t t1 k.val := by
    unfold issue_step.sl.r
    change tAt t (512 * (i 0).val + (k1_off2 t1 k 0 + 1 * 0)) = _
    rw [show k1_off2 t1 k 0 = 8 * t1.val + k.val from congrFun (k1_off2_eq t1 k) 0]
    rfl
  rw [hr]
  have hc := Words.chk1 i t1 k (tAt_lt t ht (512 * (i 0).val + (8 * t1.val + k.val)))
  sl_exec
  iapply (Transfers.wp_dmaBatch (countersEmb (U := UU)) 𝒱₀ (Si d i) none (src := tileM i t ht t1 k) (dst := slotM k)
    (via := .same) (fs := x) (fd := f) (D := delivers d i x t ht q t1)
    (none : HIx 1) NN rfl (Finset.Subset.refl _) k.isLt (Nat.zero_le _)
    (sep_mono_left (Entails.of_eq (pointsTo_congr (landed i x t ht t1 k f))))) $$ [HB Hs Ht]
  · isplitl [Ht]; · iexact Ht
    isplitl [Hs]; · iexact Hs
    iexact HB
  iintro HB
  sl_step
  isplitl [HB]; · iexact HB
  isplitl [Hr]; · iexact Hr
  iexact Hv

/-! ### The drain loop -/

/-- Before wait `k` of a group: while waits remain, every copy issued and `k` copies' credit consumed; after the last,
    every delivery in hand and the semaphore at zero. -/
def drainAt (q : PosShare TreeShare) (t1 : Fin k1_t1_loop.trips) (O : CellTallies nD τ sig (HIx 1)) (k : ℕ) (_ : Unit) : sProp 𝕄 :=
  iprop(Transfers.MayWaits (Si d i) (none : HIx 1) O
    ∗ (if k < k1_t3_loop.trips then batch d i x t ht q t1 k1_t2_loop.trips (k * NN)
      else iprop((bigSep Finset.univ (delivers d i x t ht q t1)) ∗ semVal (Si d i, SemLoc.dma cc1_scratch4.sem) 0))
    ∗ ∃ W, owes (Si d i) O W)

theorem drain_step (q : PosShare TreeShare) (t1 : Fin k1_t1_loop.trips) (O : CellTallies nD τ sig (HIx 1))
    (k : Fin k1_t3_loop.trips) (u : Unit) :
    drainAt d i x t ht q t1 O k.val u ⊢ wp frame (wpE (defs₀ (F := F)) 𝒱₀ (Si d i) none) Set.univ
      (k1_t3_body i xW (Memref.isWhole_whole _) tW (Memref.isWhole_whole _) oW (Memref.isWhole_whole _) vW (Memref.isWhole_whole _)
        bW (Memref.isWhole_whole _) aW (Memref.isWhole_whole _) cc1_scratch3 cc1_scratch4 cc1_scoped0 k u)
      (drainAt d i x t ht q t1 O (k.val + 1)) := by
  have hn : k1_t2_loop.trips = k1_t3_loop.trips := by decide
  unfold drainAt k1_t3_body
  rw [if_pos k.isLt]
  iintro ⟨#Hmw, HB, %W, HO⟩
  ihave Hm := (Transfers.MayWaits.elim (SemLoc.dma cc1_scratch4.sem)) $$ Hmw
  by_cases hk : k.val + 1 < k1_t3_loop.trips
  · rw [if_pos hk]
    have hlt : k.val * NN + NN < NN * k1_t2_loop.trips := by
      rw [← Nat.succ_mul, Nat.mul_comm]; exact Nat.mul_lt_mul_of_pos_left (lt_of_lt_of_eq hk hn.symm) NN_pos
    sl_exec
    sl_step
    isplitr; · iexact Hmw
    isplitl [HB]; · rw [Nat.succ_mul]; iexact HB
    iexists _; iexact HO
  · rw [if_neg hk]
    have heq : k.val * NN + NN = NN * k1_t2_loop.trips := by
      have h8 : k1_t3_loop.trips = k.val + 1 := by have := k.isLt; omega
      rw [← Nat.succ_mul, Nat.mul_comm]; exact congrArg (NN * ·) (h8.symm.trans hn.symm)
    sl_exec
    sl_step
    isplitr; · iexact Hmw
    isplitl [HB_all HB]
    · isplitl [HB_all]; · iexact HB_all
      iexact HB
    iexists _; iexact HO

/-! ### The accumulation loop -/

/-- Before row `k` of group `t1`: the targets, the staged blocks, and the running sum over the rows before it. -/
def accAt (t1 : Fin k1_t1_loop.trips) (k : ℕ) (_ : Unit) : sProp 𝕄 :=
  iprop(((vW).view.loc (Si d i) ↦{fullShare} vals (F := F) t (i 0).val)
    ∗ ((bW).view.loc (Si d i) ↦{fullShare} stage x t (i 0).val t1.val)
    ∗ ((aW).view.loc (Si d i) ↦{fullShare} fun _ => accN x t (i 0).val (8 * t1.val + k)))

/-- A store of the running sum replaces it. -/
theorem acc_store (f w : S1.Idx → Elt F .f32) :
    (aW).view.writes (Elt F) f [⟨Rect.unit ![0] S1.size inb_S1_S1_0, w⟩] = w :=
  View.read_writes_full (Val := Elt F) (aW).view f inb_S1_S1_0 w []

include ht in
theorem acc_step (t1 : Fin k1_t1_loop.trips) (k : Fin k1_t4_loop.trips) (u : Unit) :
    accAt d i x t t1 k.val u ⊢ wp frame (wpE (defs₀ (F := F)) 𝒱₀ (Si d i) none) Set.univ
      (k1_t4_body i xW (Memref.isWhole_whole _) tW (Memref.isWhole_whole _) oW (Memref.isWhole_whole _) vW (Memref.isWhole_whole _)
        bW (Memref.isWhole_whole _) aW (Memref.isWhole_whole _) cc1_scratch3 cc1_scratch4 cc1_scoped0 t1 k u)
      (accAt d i x t t1 (k.val + 1)) := by
  unfold accAt k1_t4_body
  iintro ⟨Hv, Hb, Ha⟩
  sl_exec
  have hr : acc_step.sl.r (F := F) i t t1 k = tv i t t1 k.val := by
    unfold acc_step.sl.r
    change tAt t (512 * (i 0).val + (k1_off6 t1 k 0 + 1 * 0)) = _
    rw [show k1_off6 t1 k 0 = 8 * t1.val + k.val from congrFun (k1_off6_eq t1 k) 0]
    rfl
  rw [hr]
  have hc := Words.chk2 i t1 k (tAt_lt t ht (512 * (i 0).val + (8 * t1.val + k.val)))
  sl_exec
  sl_step
  isplitl [Hv]; · iexact Hv
  isplitl [Hb]; · iexact Hb
  have hval : (Memref.whole cc1_scratch2).view.writes (Elt F) (fun _ => accN x t (i 0).val (8 * t1.val + k.val))
      [⟨Rect.unit ![0] S1.size inb_S1_S1_0, fun _ =>
          k1_pay1 (acc_step.sl.r_1 d i x t t1 k) (acc_step.sl.r_2 i x t t1 k hc)⟩]
      = fun _ => accN x t (i 0).val (8 * t1.val + (k.val + 1)) := by
    refine (acc_store _ _).trans ?_
    funext _
    change Scalar.addf (acc_step.sl.r_1 d i x t t1 k) (acc_step.sl.r_2 i x t t1 k hc) = Scalar.addf _ _
    have h1 : acc_step.sl.r_1 d i x t t1 k = accN x t (i 0).val (8 * t1.val + k.val) := rfl
    have ho := Words.off7_eq i t1 k (tAt_lt t ht (512 * (i 0).val + (8 * t1.val + k.val)))
    have h2 : acc_step.sl.r_2 i x t t1 k hc = pick x t (512 * (i 0).val + (8 * t1.val + k.val)) := by
      unfold acc_step.sl.r_2 pick
      change xAt x (512 * (i 0).val + 8 * t1.val + (k1_off7 i t1 k (tv i t t1 k.val) 1 + 1 * 0))
        ((tAt t (512 * (i 0).val + 8 * t1.val + (k1_off7 i t1 k (tv i t t1 k.val) 0 + 1 * 0))).toNat / 128 * 128
          + (k1_off7 i t1 k (tv i t t1 k.val) 2 + 1 * 0)) = _
      rw [show k1_off7 i t1 k (tv i t t1 k.val) 0 = k.val from congrFun ho 0,
        show k1_off7 i t1 k (tv i t t1 k.val) 1 = k.val from congrFun ho 1,
        show k1_off7 i t1 k (tv i t t1 k.val) 2 = (tv i t t1 k.val).toNat % 128 from congrFun ho 2]
      simp only [Nat.mul_zero, Nat.add_zero, Nat.add_assoc, tv, Nat.div_add_mod']
    rw [h1, h2]
    rfl
  exact Entails.of_eq (pointsTo_congr fun j _ => congrFun hval j)

/-! ### A group -/

theorem slot_set (r : Fin k1_t2_loop.trips) :
    (slotM r).view.set = (Rect.unit (s := S8x8x128) (k1_off3 r) S1x8x128.size (k1_off3_inb r)).set := by
  simp only [slotM, Memref.view_squeeze, View.set_reshape]; exact View.set_slice_whole _ _

/-- The staging scratch whole is its eight slots. -/
theorem slots_eq (f : S8x8x128.Idx → Elt F .f32) :
    ((bW).view.loc (Si d i) ↦{fullShare} f : sProp 𝕄) = bigSep Finset.univ fun r => slotP d i r f := by
  have hd := Ring.lead_disjoint (s := S8x8x128) (0 : Fin 3) 1 (fun r : Fin k1_t2_loop.trips => k1_off3 r) S1x8x128.size k1_off3_inb
    (fun r => by rw [k1_off3_eq]; simp) rfl
  have hc := Ring.lead_cover (s := S8x8x128) (0 : Fin 3) 1 (fun r : Fin k1_t2_loop.trips => k1_off3 r) S1x8x128.size k1_off3_inb
    (fun r => by rw [k1_off3_eq]; simp)
    (fun r a ha => by rw [k1_off3_eq]; fin_cases a <;> first | exact absurd rfl ha | rfl) rfl
    (fun a ha => by fin_cases a <;> first | exact absurd rfl ha | rfl) rfl
  refine (Ring.pointsTo_blocks (ℓ := (bW).view.loc (Si d i)) _ hd hc f).trans ?_
  refine congrArg (bigSep Finset.univ) (funext fun r => ?_)
  unfold slotP; rw [slot_set]; rfl

/-- The slots at `f`, each at something. -/
theorem some_slots (f : S8x8x128.Idx → Elt F .f32) :
    (bigSep Finset.univ fun r => slotP d i r f : sProp 𝕄) ⊢ bigSep Finset.univ fun r => iprop(∃ f, slotP d i r f) :=
  bigSep_mono fun r _ => show slotP d i r f ⊢ iprop(∃ f, slotP d i r f) by iintro H; iexists f; iexact H

/-- What a group's copies leave of the table: beside each copy's block, the rest of the table under the copy's share. -/
abbrev restP (q : PosShare TreeShare) (t1 : Fin k1_t1_loop.trips) (r : Fin k1_t2_loop.trips) : sProp 𝕄 :=
  (xW).view.loc (Si d i) ↦[Finset.univ \ (tileM i t ht t1 r).view.set]{Transfers.shareTokN q r.val} x

/-- The table whole under a share is a remainder of the share, and for each of a group's copies its block and the rest. -/
theorem table_eq (q : PosShare TreeShare) (t1 : Fin k1_t1_loop.trips) :
    ((xW).view.loc (Si d i) ↦{q} x : sProp 𝕄) ⊣⊢ iprop(((xW).view.loc (Si d i) ↦{Transfers.shareDrop q k1_t2_loop.trips} x)
      ∗ (bigSep Finset.univ fun r => tileP d i x t ht q t1 r) ∗ bigSep Finset.univ fun r => restP d i x t ht q t1 r) := by
  rw [← bigSep_sep']
  have h : ∀ r : Fin k1_t2_loop.trips, ((xW).view.loc (Si d i) ↦{Transfers.shareTok q k1_t2_loop.trips r} x : sProp 𝕄)
      ⊣⊢ iprop(tileP d i x t ht q t1 r ∗ restP d i x t ht q t1 r) := fun r => pointsTo_split_subset (Finset.subset_univ _)
  have e : (bigSep Finset.univ fun r : Fin k1_t2_loop.trips => ((xW).view.loc (Si d i) ↦{Transfers.shareTok q k1_t2_loop.trips r} x : sProp 𝕄))
      = bigSep Finset.univ fun r => iprop(tileP d i x t ht q t1 r ∗ restP d i x t ht q t1 r) :=
    congrArg (bigSep Finset.univ) (funext fun r => equiv_iff.mp ⟨(h r).1, (h r).2⟩)
  rw [← e]
  exact Transfers.pointsTo_toks q k1_t2_loop.trips

/-- Before group `k`: the table under its share, the targets, the staging scratch at anything, the running sum over the
    groups before it, the copies' semaphore at zero. -/
def groupAt (q : PosShare TreeShare) (O : CellTallies nD τ sig (HIx 1)) (k : ℕ) (_ : Unit) : sProp 𝕄 :=
  iprop(Transfers.MayWaits (Si d i) (none : HIx 1) O
    ∗ ((xW).view.loc (Si d i) ↦{q} x)
    ∗ ((vW).view.loc (Si d i) ↦{fullShare} vals (F := F) t (i 0).val)
    ∗ (∃ f : S8x8x128.Idx → Elt F .f32, (bW).view.loc (Si d i) ↦{fullShare} f)
    ∗ ((aW).view.loc (Si d i) ↦{fullShare} fun _ => accN x t (i 0).val (8 * k))
    ∗ semVal (Si d i, SemLoc.dma cc1_scratch4.sem) 0
    ∗ ∃ W, owes (Si d i) O W)

include ht in
theorem group_step (q : PosShare TreeShare) (O : CellTallies nD τ sig (HIx 1)) (v0 : BitVec 32) (k : Fin k1_t1_loop.trips) (u : Unit) :
    groupAt d i x t q O k.val u ⊢ wp frame (wpE (defs₀ (F := F)) 𝒱₀ (Si d i) none) Set.univ
      (k1_t1_body i xW (Memref.isWhole_whole _) tW (Memref.isWhole_whole _) oW (Memref.isWhole_whole _) vW (Memref.isWhole_whole _)
        bW (Memref.isWhole_whole _) aW (Memref.isWhole_whole _) cc1_scratch3 cc1_scratch4 cc1_scoped0 v0 k u)
      (groupAt d i x t q O (k.val + 1)) := by
  unfold groupAt k1_t1_body
  iintro ⟨#Hmw, Hx, Hv, ⟨%f, Hb⟩, Ha, Hc, %W, HO⟩
  ihave Hx := (table_eq d i x t ht q k).1 $$ Hx
  icases Hx with ⟨Hd, Ht, Hn⟩
  ihave Hb := (Entails.of_eq (slots_eq d i f)) $$ Hb
  imod (Transfers.batch_alloc' (Lvl := ℕ) (countersEmb (U := UU)) (Si d i) (none : HIx 1) NN (delivers d i x t ht q k)
    (sm := .dma cc1_scratch4.sem) (E := Set.univ)) $$ Hc with HB
  sl_exec
  sl_for (issueAt d i x t ht q k) $$ [HB Hb Ht Hv]
  · intro k2 u; exact issue_step d i x t ht q k v0 _ k2 u
  · unfold issueAt
    rw [Ring.rangeSet_univ, bigSep_sep']
    isplitl [HB]; · iexact HB
    isplitr [Hv]
    · isplitr [Ht]
      · iapply (some_slots d i f)
        iexact Hb
      iexact Ht
    iexact Hv
  iintro %u HI
  unfold issueAt
  icases HI with ⟨HB, -, Hv⟩
  sl_exec
  sl_for (drainAt d i x t ht q k O) $$ [HB HO]
  · intro k2 u; exact drain_step d i x t ht q k O k2 u
  · unfold drainAt
    rw [if_pos (by decide), Nat.zero_mul]
    isplitr; · iexact Hmw
    isplitl [HB]; · iexact HB
    iexists W; iexact HO
  iintro %u HI
  unfold drainAt
  rw [if_neg (Nat.lt_irrefl _), bigSep_sep']
  icases HI with ⟨-, ⟨⟨Hs, Ht⟩, Hc⟩, %W', HO⟩
  ihave Hb := (Entails.of_eq (slots_eq d i (stage x t (i 0).val k.val)).symm) $$ Hs
  ihave Hx := (table_eq d i x t ht q k).2 $$ [Hd Ht Hn]
  · isplitl [Hd]; · iexact Hd
    isplitl [Ht]; · iexact Ht
    iexact Hn
  sl_exec
  sl_for (accAt d i x t k) $$ [Hv Hb Ha]
  · intro k2 u; exact acc_step d i x t ht k k2 u
  · unfold accAt
    isplitl [Hv]; · iexact Hv
    isplitl [Hb]; · iexact Hb
    iexact Ha
  iintro %u HI
  unfold accAt
  icases HI with ⟨Hv, Hb, Ha⟩
  sl_step
  isplitr; · iexact Hmw
  isplitl [Hx]; · iexact Hx
  isplitl [Hv]; · iexact Hv
  isplitl [Hb]; · iexists _; iexact Hb
  isplitl [Ha]
  · rw [show 8 * (k.val + 1) = 8 * k.val + k1_t4_loop.trips from by rw [show k1_t4_loop.trips = 8 from by decide]; omega]
    iexact Ha
  isplitl [Hc]; · iexact Hc
  iexists W'; iexact HO

/-! ### The whole body -/

/-- The subcore's row of the result, its first column. -/
def outM : Memref sig .scScalar .hbm S1 .f32 :=
  ((oW).slice (Rect.unit (s := S2x8) (k1_off8 i) S1x1.size (k1_off8_inb i)) (fun _ => rfl)).squeeze S1 squeezes_S1x1_S1

/-- What the two subcores leave in the result: each its sum, in its row. -/
def sums : S2x8.Idx → Elt F .f32 := fun j => accN x t (j 0).val 512

/-- The index of the result under the one index of the row's first column, -/
def outIx (z : S1.Idx) : S2x8.Idx := (outM i).view.emb z
theorem out_emb0 (z : S1.Idx) : (outIx i z 0).val = (i 0).val := by
  change k1_off8 i 0 + 1 * ((Shape.reshapeEquiv (s := S1x1) squeezes_S1x1_S1.numel_eq z) 0).val = _
  have h := ((Shape.reshapeEquiv (s := S1x1) squeezes_S1x1_S1.numel_eq z) 0).isLt
  change _ < 1 at h
  have hi : (i 0).val < 2 := (i 0).isLt
  rw [show k1_off8 i 0 = (BitVec.ofNat 32 (i 0).val).toNat from rfl, BitVec.toNat_ofNat, Nat.mod_eq_of_lt (by omega)]
  omega
/-- and what a copy leaves there: the value copied. -/
theorem out_written (fo : S2x8.Idx → Elt F .f32) (w : S1.Idx → Elt F .f32) (hw : w = fun _ => accN x t (i 0).val 512) :
    ∀ y ∈ (outM i).view.set, (outM i).view.writes (Elt F) fo [⟨Rect.whole S1, w⟩] y = sums x t y := by
  intro y hy
  obtain ⟨z, -, rfl⟩ := Finset.mem_map.mp hy
  have hz : (outM i).view.emb z = ((outM i).view.slice (Rect.whole S1)).emb z := by
    change _ = (outM i).view.emb ((Rect.whole S1).emb z)
    congr 1
    funext a
    refine Fin.ext ?_
    have h1 := (z a).isLt; have h2 := ((Rect.whole S1).emb z a).isLt
    have h3 : S1.size a = 1 := by match a with | 0 => rfl
    omega
  subst hw
  have h0 : sums x t ((outM i).view.emb z) = accN x t (i 0).val 512 :=
    congrArg (fun c => accN x t c 512) (out_emb0 i z)
  refine Eq.trans ?_ h0.symm
  rw [hz]
  exact View.write_emb_of_mem _ _ (Finset.mem_univ z)

include ht in
/-- The kernel on subcore `i`, from the table and the targets under a share, its part of the result, its scratch and its
    three semaphores at zero, leaves its sum in its part of the result and the rest as it was. -/
theorem body_run (q : PosShare TreeShare) (O : CellTallies nD τ sig (HIx 1)) (W : Waits sig (HIx 1)) (fo : S2x8.Idx → Elt F .f32)
    (fv : S512.Idx → Elt F .i32) (fb : S8x8x128.Idx → Elt F .f32) (fa : S1.Idx → Elt F .f32) :
    (iprop(Transfers.MayWaits (Si d i) (none : HIx 1) O
        ∗ ((xW).view.loc (Si d i) ↦{q} x) ∗ ((tW).view.loc (Si d i) ↦{q} t)
        ∗ ((outM i).view.loc (Si d i) ↦[(outM i).view.set]{fullShare} fo)
        ∗ ((vW).view.loc (Si d i) ↦{fullShare} fv) ∗ ((bW).view.loc (Si d i) ↦{fullShare} fb) ∗ ((aW).view.loc (Si d i) ↦{fullShare} fa)
        ∗ semVal (Si d i, SemLoc.dma cc1_scratch3.sem) 0 ∗ semVal (Si d i, SemLoc.dma cc1_scratch4.sem) 0
        ∗ semVal (Si d i, SemLoc.dma cc1_scoped0.sem) 0
        ∗ owes (Si d i) O W) : sProp 𝕄)
      ⊢ wp frame (wpE (defs₀ (F := F)) 𝒱₀ (Si d i) none) Set.univ
          (cc1_gather_kernel i xW (Memref.isWhole_whole _) tW (Memref.isWhole_whole _) oW (Memref.isWhole_whole _) vW (Memref.isWhole_whole _)
            bW (Memref.isWhole_whole _) aW (Memref.isWhole_whole _) cc1_scratch3 cc1_scratch4 cc1_scoped0)
          fun _ => iprop(((xW).view.loc (Si d i) ↦{q} x) ∗ ((tW).view.loc (Si d i) ↦{q} t)
            ∗ ((outM i).view.loc (Si d i) ↦[(outM i).view.set]{fullShare} sums x t)
            ∗ (∃ f, (vW).view.loc (Si d i) ↦{fullShare} f) ∗ (∃ f, (bW).view.loc (Si d i) ↦{fullShare} f) ∗ (∃ f, (aW).view.loc (Si d i) ↦{fullShare} f)
            ∗ semVal (Si d i, SemLoc.dma cc1_scratch3.sem) 0 ∗ semVal (Si d i, SemLoc.dma cc1_scratch4.sem) 0
            ∗ semVal (Si d i, SemLoc.dma cc1_scoped0.sem) 0
            ∗ ∃ W', owes (Si d i) O W') := by
  rw [cc1_gather_kernel_eq_skeleton]
  unfold cc1_gather_kernel_skel
  iintro ⟨#Hmw, Hx, Ht, Ho, Hv, Hb, Ha, H3, H4, H5, HO⟩
  sl_exec (disch := exact View.amount_pos _ _ (show 0 < S512.numel by decide))
  -- the targets as staged, the sum at zero
  have hv : (vW).view.write (Elt F) fv (body_run.sl.dma0 i t) Finset.univ = vals (F := F) t (i 0).val := by
    refine (View.write_whole_univ cc1_scratch0 fv (body_run.sl.dma0 (F := F) i t)).trans ?_
    funext j
    unfold body_run.sl.dma0 vals
    refine (tAt_of t _ ?_).symm
    change k1_off1 i 0 + 1 * (j 0).val = _
    rw [show k1_off1 i 0 = 512 * (i 0).val from congrFun (k1_off1_eq i) 0, Nat.one_mul]
  have ha : (aW).view.writes (Elt F) (aW).view.junk body_run.sl.Ha_1 = fun _ => accN x t (i 0).val (8 * 0) := by
    unfold body_run.sl.Ha_1
    exact acc_store _ _
  ihave Hv := (Entails.of_eq (pointsTo_congr fun j _ => congrFun hv j)) $$ Hv
  ihave Ha := (Entails.of_eq (pointsTo_congr fun j _ => congrFun ha j)) $$ Ha
  sl_for (groupAt d i x t q O) $$ [Hx Hv Hb Ha H4 HO]
  · intro k u; exact group_step d i x t ht q O _ k u
  · unfold groupAt
    isplitr; · iexact Hmw
    isplitl [Hx]; · iexact Hx
    isplitl [Hv]; · iexact Hv
    isplitl [Hb]; · iexists fb; iexact Hb
    isplitl [Ha]; · iexact Ha
    isplitl [H4]; · iexact H4
    iexists _; iexact HO
  iintro %u HI
  unfold groupAt
  icases HI with ⟨-, Hx, Hv, ⟨%fb', Hb⟩, Ha, H4, %W', HO⟩
  sl_exec (disch := exact View.amount_pos _ _ (show 0 < S1.numel by decide))
  sl_step
  isplitl [Hx]; · iexact Hx
  isplitl [Ht]; · iexact Ht
  isplitl [Ho]
  · iapply (Entails.of_eq (pointsTo_congr (out_written i x t fo (body_run.sl.dma0_1 d i x t) rfl)))
    iexact Ho
  isplitl [Hv]; · iexists _; iexact Hv
  isplitl [Hb]; · iexists _; iexact Hb
  isplitl [Ha]; · iexists _; iexact Ha
  isplitl [H3]; · iexact H3
  isplitl [H4]; · iexact H4
  isplitl [H5]; · iexact H5
  iexists _; iexact HO

end Body

end Cert.Proof.Gather

end
-- ==== Proof.Launch.lean ====
/-
  What the SparseCore call takes and gives back, and its body on one scalar subcore in the launch theorem's shape.

  The call deals the table and the targets to the two scalar subcores by read shares, and to each the first column of
  its own row of the result; each gives the same back, with its sum in its part of the result.
-/
module

public import proofs.«01_k».proof.Proof.Gather

@[expose] public section

noncomputable section

namespace Cert.Proof.Gather

open Cert.KernelIdeal Cert.KernelIdeal.Gen Cert.Proof
open Idealize.ShloMosaic
open Idealize.ShloMosaic.SparseCore (S T)
open Idealize.ShloMosaic.SparseCore.Cfg (HIx ownSems0 ownBufs ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "xW" => (Memref.whole Cert.KernelIdeal.main_v2_scs : Memref Cert.KernelIdeal.sig Kind.scScalar Space.hbm Cert.KernelIdeal.S1024x100096 EltTy.f32)
local notation "tW" => (Memref.whole Cert.KernelIdeal.main_arg1_scs : Memref Cert.KernelIdeal.sig Kind.scScalar Space.hbm Cert.KernelIdeal.S1024 EltTy.i32)
local notation "oW" => (Memref.whole Cert.KernelIdeal.main_v3_scs : Memref Cert.KernelIdeal.sig Kind.scScalar Space.hbm Cert.KernelIdeal.S2x8 EltTy.f32)
local notation "vW" => (Memref.whole Cert.KernelIdeal.cc1_scratch0 : Memref Cert.KernelIdeal.sig Kind.scScalar Space.smem Cert.KernelIdeal.S512 EltTy.i32)
local notation "bW" => (Memref.whole Cert.KernelIdeal.cc1_scratch1 : Memref Cert.KernelIdeal.sig Kind.scScalar Space.smem Cert.KernelIdeal.S8x8x128 EltTy.f32)
local notation "aW" => (Memref.whole Cert.KernelIdeal.cc1_scratch2 : Memref Cert.KernelIdeal.sig Kind.scScalar Space.smem Cert.KernelIdeal.S1 EltTy.f32)

/-- The table, the targets and the result, as the TensorCore names them. -/
abbrev xLoc (d : Dev nD) : Loc nD τ sig := (SparseCore.T d).loc main_v2
abbrev tLoc (d : Dev nD) : Loc nD τ sig := (SparseCore.T d).loc main_arg1
abbrev oLoc (d : Dev nD) : Loc nD τ sig := (SparseCore.T d).loc main_v3

/-- Subcore `c`'s grid coordinates. -/
def coordsS (c : Fin (grid1.bound 0)) : grid1.Coords := fun | 0 => c | ⟨_ + 1, h⟩ => absurd h (Nat.not_lt.2 (Nat.le_add_left _ _))

/-- Subcore `c`'s part of the result. -/
abbrev oSet (c : Fin (grid1.bound 0)) : Finset S2x8.Idx := (outM (coordsS c)).view.set

variable (x : Dev nD → S1024x100096.Idx → Elt F .f32) (t : Dev nD → S1024.Idx → BitVec 32) (ht : ∀ d j, (t d j).toNat < 100000)

/-- What subcore `c` holds of the table and of the targets; -/
abbrev xTok (d : Dev nD) (c : Fin (grid1.bound 0)) : sProp 𝕄 := xLoc d ↦{Transfers.shareTokN fullShare c.val} x d
abbrev tTok (d : Dev nD) (c : Fin (grid1.bound 0)) : sProp 𝕄 := tLoc d ↦{Transfers.shareTokN fullShare c.val} (t d : S1024.Idx → Elt F .i32)
/-- its part of the result at `f`. -/
abbrev oPart (d : Dev nD) (c : Fin (grid1.bound 0)) (f : S2x8.Idx → Elt F .f32) : sProp 𝕄 := oLoc d ↦[oSet c]{fullShare} f

instance st_storable (d : Dev nD) (c : Fin (grid1.bound 0)) :
    Storable (upEmb : UEmb _ 𝕄) iprop(xTok x d c ∗ tTok t d c ∗ ∃ f, oPart d c f) :=
  @Storable.sep _ _ _ _ _ _ _ _ (storable_pts _ _ _) (@Storable.sep _ _ _ _ _ _ _ _ (storable_pts _ _ _)
    (@Storable.exists _ _ _ _ _ _ _ _ fun _ => storable_pts _ _ _))
instance dn_storable (d : Dev nD) (c : Fin (grid1.bound 0)) :
    Storable (upEmb : UEmb _ 𝕄) iprop(xTok x d c ∗ tTok t d c ∗ oPart d c (sums (x d) (t d))) :=
  @Storable.sep _ _ _ _ _ _ _ _ (storable_pts _ _ _) (@Storable.sep _ _ _ _ _ _ _ _ (storable_pts _ _ _) (storable_pts _ _ _))

/-- A core of the one call, as a coordinate of the kernel's grid. -/
def cc (q : Fin 1) (c : Fin ((K (F := F)).nCore q)) : Fin (grid1.bound 0) := ⟨c.val, match q, c with | 0, c => c.isLt⟩

/-- The call's payloads. -/
def P : (K (F := F)).Pay (nD := nD) (Val := Elt F) (Name := ℕ) (U := UU) where
  st := fun q d c => iprop(xTok x d (cc q c) ∗ tTok t d (cc q c) ∗ ∃ f, oPart d (cc q c) f)
  dn := fun q d c => iprop(xTok x d (cc q c) ∗ tTok t d (cc q c) ∗ oPart d (cc q c) (sums (x d) (t d)))
  go := fun _ _ _ _ => iprop(emp)
  td := fun _ _ _ _ => iprop(emp)
  x := fun _ _ => iprop(emp)

instance P_storable : (P x t).IsStorable where
  st q d c := st_storable x t d (cc q c)
  dn q d c := dn_storable x t d (cc q c)
  go _ _ _ _ := by unfold P; infer_instance
  td _ _ _ _ := by unfold P; infer_instance

/-! ## The subcore's own buffers and cells -/

section Own
omit [FloatOps F]
variable (d : Dev nD) (c : Fin τ.nSC)

/-- The three cells of the body: `3`, `4` and `5` of the pool of DMA cells. -/
abbrev cell (k : Fin 3) : DmaSem sig := ⟨3 + k.val, by have := k.isLt; show 3 + k.val < 6; omega⟩
abbrev dcell (k : Fin 3) : GSem nD τ sig := (S d c, .dma (cell k))

theorem dcell_mem (k : Fin 3) : dcell d c k ∈ ownCells (S d c) :=
  mem_ownCells.mpr ⟨rfl, (show ∀ s : DmaSem sig, (SemLoc.dma s : SemLoc sig).isScoped .scScalar = true by decide) _⟩

/-- The subcore's cells at zero: the body's three, and the rest. -/
theorem ownSems0_S :
    (ownSems0 (S d c) : sProp 𝕄)
      = iprop((semVal (S d c, SemLoc.dma (cell 0)) 0 ∗ semVal (S d c, SemLoc.dma (cell 1)) 0 ∗ semVal (S d c, SemLoc.dma (cell 2)) 0)
          ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 3)) = {0, 1, 2} by decide,
    SparseCore.bigSep_insert' (by decide), SparseCore.bigSep_insert' (by decide), bigSep_singleton]

abbrev vRef : DevRef τ sig := (Proc.scScalar c).devRef cc1_scratch0
abbrev bRef : DevRef τ sig := (Proc.scScalar c).devRef cc1_scratch1
abbrev aRef : DevRef τ sig := (Proc.scScalar c).devRef cc1_scratch2

/-- The subcore's buffers: the three scratches, each at something, and the rest. -/
theorem ownBufs_S :
    (ownBufs (S d c) : sProp 𝕄)
      = iprop((∃ f, (S d c).loc cc1_scratch0 ↦{fullShare} f) ∗ (∃ f, (S d c).loc cc1_scratch1 ↦{fullShare} f)
          ∗ (∃ f, (S d c).loc cc1_scratch2 ↦{fullShare} f)
          ∗ bigSep ((((ownRefs (τ := τ) (.scScalar c)).erase (vRef c)).erase (bRef c)).erase (aRef c)) fun b => iprop(∃ f, ((d, b) : Loc nD τ sig) ↦{fullShare} f)) := by
  unfold SparseCore.Cfg.ownBufs
  have n1 : bRef c ≠ vRef c := fun h => by cases h
  have n2 : aRef c ≠ vRef c := fun h => by cases h
  have n3 : aRef c ≠ bRef c := fun h => by cases h
  rw [SparseCore.bigSep_erase' ((mem_ownRefs (p := Proc.scScalar c) (b := vRef c)).mpr rfl),
    SparseCore.bigSep_erase' (Finset.mem_erase.mpr ⟨n1, (mem_ownRefs (p := Proc.scScalar c) (b := bRef c)).mpr rfl⟩),
    SparseCore.bigSep_erase' (Finset.mem_erase.mpr ⟨n3, Finset.mem_erase.mpr ⟨n2, (mem_ownRefs (p := Proc.scScalar c) (b := aRef c)).mpr rfl⟩⟩)]

end Own

/-! ## The body in the launch theorem's shape -/

/-- Subcore `c`'s thread. -/
abbrev Sc (d : Dev nD) (c : Fin (grid1.bound 0)) : Thread nD τ := Si d (coordsS c)

include ht in
/-- The kernel on subcore `c`, with the subcore's scoped buffers and cells. -/
theorem body₀ (d : Dev nD) (c : Fin (grid1.bound 0)) (hF : (K (F := F)).Facts) (O : CellTallies nD τ sig (HIx 1)) (W : Waits sig (HIx 1))
    (hO : ∀ g, O g none = 0) :
    iprop(levAts (K (F := F)).L (K (F := F)).lev ∗ emp ∗ (xTok x d c ∗ tTok t d c ∗ ∃ f, oPart d c f)
        ∗ scopedBufs (Sc d c) ∗ scopedSems0 (Sc d c) ∗ owes (Sc d c) O W)
      ⊢ wp frame (wpE (defs₀ (F := F)) 𝒱₀ (Sc d c) none) Set.univ
          (cc1_gather_kernel (coordsS c) xW (Memref.isWhole_whole _) tW (Memref.isWhole_whole _) oW (Memref.isWhole_whole _) vW (Memref.isWhole_whole _)
            bW (Memref.isWhole_whole _) aW (Memref.isWhole_whole _) cc1_scratch3 cc1_scratch4 cc1_scoped0)
          fun _ => iprop((xTok x d c ∗ tTok t d c ∗ oPart d c (sums (x d) (t d))) ∗ scopedBufs (Sc d c) ∗ scopedSems0 (Sc d c)
            ∗ ∃ W', ⌜∀ p ∈ W', p ∈ W ∨ p.2 = none ∨ p.2 = some (0 : Fin 1)⌝ ∗ owes (Sc d c) O W') := by
  rw [(K (F := F)).scopedBufs_S hF d _, SparseCore.Cfg.scopedSems0_S (Val := Elt F) d _, ownSems0_S, ownBufs_S]
  iintro ⟨#Hlv, -, ⟨Hx, Ht, %fo, Ho⟩, ⟨⟨⟨%fv, Hv⟩, ⟨%fb, Hb⟩, ⟨%fa, Ha⟩, Hbufs⟩, Htiles⟩, ⟨⟨⟨H3, H4, H5⟩, Hsems⟩, HtileSems⟩, HO⟩
  ihave Hmw := ((K (F := F)).mayWaits_none (thr := Sc d c) hO) $$ Hlv
  have hrun := body_run d (coordsS c) (x d) (t d) (ht d) (Transfers.shareTokN fullShare c.val) O W fo fv fb fa
  simp only [Memref.view_whole, View.set_whole] at hrun
  iapply (wp_wand_r Idealize.ShloMosaic.frame (wpE (defs₀ (F := F)) 𝒱₀ (Sc d c) none) Set.univ)
  isplitl [Hx Ht Ho Hv Hb Ha H3 H4 H5 HO]
  · iapply hrun
    isplitr; · iexact Hmw
    isplitl [Hx]; · iexact Hx
    isplitl [Ht]; · iexact Ht
    isplitl [Ho]; · iexact Ho
    isplitl [Hv]; · iexact Hv
    isplitl [Hb]; · iexact Hb
    isplitl [Ha]; · iexact Ha
    isplitl [H3]; · iexact H3
    isplitl [H4]; · iexact H4
    isplitl [H5]; · iexact H5
    iexact HO
  iintro %_ ⟨Hx, Ht, Ho, Hv, Hb, Ha, H3, H4, H5, %W', HO⟩
  isplitl [Hx Ht Ho]
  · isplitl [Hx]; · iexact Hx
    isplitl [Ht]; · iexact Ht
    iexact Ho
  isplitl [Hv Hb Ha Hbufs Htiles]
  · isplitl [Hv Hb Ha Hbufs]
    · isplitl [Hv]; · iexact Hv
      isplitl [Hb]; · iexact Hb
      isplitl [Ha]; · iexact Ha
      iexact Hbufs
    iexact Htiles
  isplitl [H3 H4 H5 Hsems HtileSems]
  · isplitl [H3 H4 H5 Hsems]
    · isplitl [H3 H4 H5]
      · isplitl [H3]; · iexact H3
        isplitl [H4]; · iexact H4
        iexact H5
      iexact Hsems
    iexact HtileSems
  iexists W'; isplitr
  · ipureintro; intro p _
    rcases p.2 with _ | q
    · exact .inr (.inl rfl)
    · exact .inr (.inr (congrArg some (Subsingleton.elim q 0)))
  · iexact HO

theorem defs₀_scalar (c : Fin τ.nSC) :
    defs₀ (F := F) (.scScalar c) 1 ()
      = SparseCore.onCore hcore1 (fun c => cc1_gather_kernel (coordsS c) xW (Memref.isWhole_whole _) tW (Memref.isWhole_whole _) oW (Memref.isWhole_whole _)
          vW (Memref.isWhole_whole _) bW (Memref.isWhole_whole _) aW (Memref.isWhole_whole _) cc1_scratch3 cc1_scratch4 cc1_scoped0) ⟨⟩ c := rfl

include ht in
/-- Each of the two scalar subcores runs the kernel from its payload to its payload. -/
theorem scalarObl : (K (F := F)).ScalarObl (D (F := F)) 𝒱 (P x t) v₀ 0 := by
  intro d c O W hO _ _
  simp only [show (P x t).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  exact body₀ x t ht d ⟨c.val, c.isLt⟩ launchFacts O W hO

end Cert.Proof.Gather

end
-- ==== Proof.Sum.lean ====
/-
  The TensorCore's part of the kernel: the sum of all entries of an array by 25 blocks of 4000 rows. The kernel keeps the
  running sum in a scratch word: it clears it at the first point of the grid, adds the sum of the point's block at every
  point, and stores the word to its result at the last point. Here is that body run at each kind of point, the value that
  the scratch word has after each point, and the whole call as one step from "every buffer of @main at `V`" to the same
  with the result's buffer at the sum.
-/
module

public import proofs.«01_k».proof.Proof.Setup
public import Idealize.ShloMosaic.Lib.Pipeline.RegionsLoop
public import Idealize.ShloMosaic.Lib.Pipeline.Frame
public import Idealize.ShloMosaic.Lib.Pipeline.FrameBody
public import Idealize.ShloMosaic.Lib.Pipeline.Value
public import Idealize.ShloMosaic.Lib.VecWindow

@[expose] public section

noncomputable section

namespace Cert.Proof.Sum

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-- The scratch word. -/
local notation "sW" => (Memref.whole cc0_scratch0)

/-- The first point of the grid is the one whose body clears the scratch word. -/
abbrev firstAt (i : grid0.Coords) : BitVec 1 := Scalar.cmpi .ne (Scalar.extui (Scalar.cmpi .eq (BitVec.ofNat 32 (i 0).val) 0#32)) 0#32

/-- A whole buffer held through a memref. -/
theorem owns_open (c : Dev nD) {sp : Space} {sh : Shape} {e : EltTy} {M : Memref sig .tc sp sh e} (h : M.IsWhole) (X : sh.Idx → Elt F e) :
    (owns (c : Thread nD τ) M fullShare X : sProp 𝕄)
      = iprop(∃ f, ⌜M.view.read (Elt F) f = X⌝ ∗ (M.view.loc (c : Thread nD τ) ↦{fullShare} f)) := by
  unfold owns; rw [h.set_eq_univ]

/-! ## The body -/

/-- A store to the scratch word replaces it. -/
theorem word_store (f w : S1.Idx → Elt F .f32) (L : List (View.Piece (Elt F) S1 .f32)) :
    (sW).view.writes (Elt F) f (⟨Rect.unit ![0] S1.size inb_S1_S1_0, w⟩ :: L) = w :=
  View.read_writes_full (Val := Elt F) (sW).view f inb_S1_S1_0 w L

/-- The body's load of its block reads all of it. -/
theorem block_load {sp : Space} (M : Memref sig .tc sp S4000x1024 .f32) (f : M.view.ty.Contents (Elt F)) :
    M.view.readAt (Elt F) (Rect.unit ![0, 0] S4000x1024.size inb_S4000x1024_S4000x1024_0_0).toLoadRect f = M.view.read (Elt F) f := by
  rw [View.readAt_eq_ld]
  exact View.ld_unit_zero (S := S4000x1024) (funext fun a => by fin_cases a <;> rfl) _ _

variable (c : Dev nD) (i : grid0.Coords) (M0 : Memref sig .tc .vmem S4000x1024 .f32) (h0 : M0.IsWhole)
  (M1 : Memref sig .tc .smem S1 .f32) (h1 : M1.IsWhole)

/-- What the body runs from at a point: the block, the result's word and the scratch word, each held. -/
abbrev held3 (f0 : Buf (Elt F) (M0.view.loc (c : Thread nD τ))) (f1 : Buf (Elt F) (M1.view.loc (c : Thread nD τ)))
    (g : Buf (Elt F) ((sW).view.loc (c : Thread nD τ))) : sProp 𝕄 :=
  iprop((M0.view.loc (c : Thread nD τ) ↦{fullShare} f0) ∗ (M1.view.loc (c : Thread nD τ) ↦{fullShare} f1)
    ∗ ((sW).view.loc (c : Thread nD τ) ↦{fullShare} g))

/-- At a point that is neither the first nor the last the body adds the block's sum to the scratch word. -/
theorem run_mid (hf : ¬ firstAt i = 1#1) (hl : ¬ k0_cond2 i = 1#1) (f0 : Buf (Elt F) (M0.view.loc (c : Thread nD τ)))
    (f1 : Buf (Elt F) (M1.view.loc (c : Thread nD τ))) (a : F .f32) (Q : PUnit → sProp 𝕄) :
    iprop(held3 c M0 M1 f0 f1 (fun _ => a)
        ∗ (held3 c M0 M1 f0 f1 (fun _ => k0_pay1 a (M0.view.read (Elt F) f0)) -∗ Q ⟨⟩))
      ⊢ wp frame (wpE (defs₀ (F := F)) 𝒱₀ (c : Thread nD τ) none) Set.univ
        (cc0__tc_body i M0 h0 M1 h1 sW (Memref.isWhole_whole _)) Q := by
  rw [cc0__tc_body_eq_skeleton]
  unfold cc0__tc_body_skel held3
  iintro ⟨⟨H0, H1, Hs⟩, Hk⟩
  sl_exec
  sl_step
  iapply Hk
  isplitl [H0]; · iexact H0
  isplitl [H1]; · iexact H1
  rw [word_store, block_load]
  iexact Hs

/-- At the first point it clears the scratch word, then adds the block's sum to it. -/
theorem run_first (hf : firstAt i = 1#1) (hl : ¬ k0_cond2 i = 1#1) (f0 : Buf (Elt F) (M0.view.loc (c : Thread nD τ)))
    (f1 : Buf (Elt F) (M1.view.loc (c : Thread nD τ))) (g : Buf (Elt F) ((sW).view.loc (c : Thread nD τ))) (Q : PUnit → sProp 𝕄) :
    iprop(held3 c M0 M1 f0 f1 g
        ∗ (held3 c M0 M1 f0 f1 (fun _ => k0_pay1 (Scalar.ofBits .f32 0x00000000#32) (M0.view.read (Elt F) f0)) -∗ Q ⟨⟩))
      ⊢ wp frame (wpE (defs₀ (F := F)) 𝒱₀ (c : Thread nD τ) none) Set.univ
        (cc0__tc_body i M0 h0 M1 h1 sW (Memref.isWhole_whole _)) Q := by
  rw [cc0__tc_body_eq_skeleton]
  unfold cc0__tc_body_skel held3
  iintro ⟨⟨H0, H1, Hs⟩, Hk⟩
  sl_exec
  sl_step
  iapply Hk
  isplitl [H0]; · iexact H0
  isplitl [H1]; · iexact H1
  rw [word_store, block_load]
  iexact Hs

/-- At the last point it adds the block's sum to the scratch word and stores the word to its result. -/
theorem run_last (hf : ¬ firstAt i = 1#1) (hl : k0_cond2 i = 1#1) (f0 : Buf (Elt F) (M0.view.loc (c : Thread nD τ)))
    (f1 : Buf (Elt F) (M1.view.loc (c : Thread nD τ))) (a : F .f32) (Q : PUnit → sProp 𝕄) :
    iprop(held3 c M0 M1 f0 f1 (fun _ => a)
        ∗ (iprop(∃ f1', ⌜M1.view.read (Elt F) f1' = fun _ => k0_pay1 a (M0.view.read (Elt F) f0)⌝
          ∗ held3 c M0 M1 f0 f1' (fun _ => k0_pay1 a (M0.view.read (Elt F) f0))) -∗ Q ⟨⟩))
      ⊢ wp frame (wpE (defs₀ (F := F)) 𝒱₀ (c : Thread nD τ) none) Set.univ
        (cc0__tc_body i M0 h0 M1 h1 sW (Memref.isWhole_whole _)) Q := by
  rw [cc0__tc_body_eq_skeleton]
  unfold cc0__tc_body_skel held3
  iintro ⟨⟨H0, H1, Hs⟩, Hk⟩
  sl_exec
  sl_step
  iapply Hk
  iexists _
  isplitr; swap
  · isplitl [H0]; · iexact H0
    isplitl [H1]; · iexact H1
    rw [word_store, block_load]
    iexact Hs
  ipureintro
  rw [View.read_writes_full (Val := Elt F) M1.view f1 inb_S1_S1_0 _ []]
  funext _
  unfold run_last.sl.r_1
  rw [block_load]
  rfl

/-! ## The value after each point -/

/-- Block `t` of the array: its rows `4000 t` to `4000 t + 3999`. -/
abbrev blk (A : S100000x1024.Idx → Elt F .f32) (t : Fin cfg0.N) : Vec F S4000x1024 .f32 :=
  ((cfg0.win 0).blk t).view.read (Elt F) A

/-- The scratch word after the first `n` points: the sum of the first `n` blocks, in order. -/
def accT (A : S100000x1024.Idx → Elt F .f32) : ℕ → F .f32
  | 0 => Scalar.ofBits .f32 0x00000000#32
  | n + 1 => if h : n < cfg0.N then k0_pay1 (accT A n) (blk A ⟨n, h⟩) else accT A n

theorem accT_succ (A : S100000x1024.Idx → Elt F .f32) (t : Fin cfg0.N) : accT A (t.val + 1) = k0_pay1 (accT A t.val) (blk A t) :=
  dif_pos t.isLt

theorem first_iff : ∀ t : Fin cfg0.N, firstAt (grid0.coords t) = 1#1 ↔ t.val = 0 := by decide
theorem last_iff : ∀ t : Fin cfg0.N, k0_cond2 (grid0.coords t) = 1#1 ↔ t.val = 24 := by decide

/-! ## The proof data -/

variable (V : (c : Dev nD) → (b : Ref sig .tc) → Buf (Elt F) ((c : Thread nD τ).loc b))
  (O : Dev nD → CellTallies nD τ sig (HIx 1)) (B : Dev nD → Set (SemLoc sig × HIx 1))

/-- The scratch word before point `k`: anything before the first, then the sum of the blocks so far. -/
def accΦ (c : Dev nD) : ℕ → sProp 𝕄
  | 0 => iprop(∃ g, (sW).view.loc (c : Thread nD τ) ↦{fullShare} g)
  | n + 1 => iprop((sW).view.loc (c : Thread nD τ) ↦{fullShare} fun _ => accT (V c main_v0) (n + 1))

/-- The call from buffers at `V`, its core owing `O c` throughout and having recorded pairs in `B c` at the start: the
    block as fetched, the result the sum of all 25 blocks once it is stored, the scratch word the sum so far. -/
def dat (c : Dev nD) : Dat τ (Elt F) (HIx 1) ℕ UU ℕ cfg0 c where
  A w := V c (Pipeline.arrRef spec0 w)
  after w t := match w with
    | ⟨0, _⟩ => blk (V c main_v0) t
    | ⟨1, _⟩ => fun _ => accT (V c main_v0) 25
  Φ t := accΦ V c t.val
  q _ := fullShare
  owed _ := O c
  recorded _ := B c

theorem accΦ_pos (c : Dev nD) {n : ℕ} (h : n ≠ 0) :
    accΦ V c n = iprop((sW).view.loc (c : Thread nD τ) ↦{fullShare} fun _ => accT (V c main_v0) n) := by
  obtain ⟨k, rfl⟩ := Nat.exists_eq_succ_of_ne_zero h; rfl

theorem accΦ_succ (c : Dev nD) (t : Fin cfg0.N) :
    accΦ V c (t.val + 1) = iprop((sW).view.loc (c : Thread nD τ) ↦{fullShare} fun _ => k0_pay1 (accT (V c main_v0) t.val) (blk (V c main_v0) t)) := by
  rw [← accT_succ]; rfl

theorem before_in (c : Dev nD) (t : Fin cfg0.N) (d : (cfg0.win 0).block.Idx → Elt F (cfg0.win 0).elt) :
    (dat V O B c).before 0 t d = blk (V c main_v0) t := by
  unfold Dat.before; rw [if_pos (fetch0_0 t)]; rfl

theorem body_obligation (c : Dev nD) : BodyObligation (dat V O B c) (defs₀ (F := F)) 𝒱₀ none Set.univ := fun t => by
  rw [bigSep_W0, bigSep_W0]
  show _ ⊢ wp frame _ _ (bodyAt0 t) fun _ => iprop((dat V O B c).Φ t.succ ∗ (dat V O B c).owesAt none t.succ
    ∗ (dat V O B c).leavesExact 0 t ∗ (dat V O B c).leavesExact 1 t)
  have hN : cfg0.N = 25 := N_0
  have hlt := t.isLt
  rw [show (dat V O B c).Φ t.castSucc = accΦ V c t.val from rfl, show (dat V O B c).Φ t.succ = accΦ V c (t.val + 1) from rfl,
    show (dat V O B c).owesAt none t.succ = (dat V O B c).owesAt none t.castSucc from rfl]
  have hidle : ∀ h : ¬ k0_cond2 (grid0.coords t) = 1#1, cfg0.idle 1 (cfg0.grid.coords t) = true := fun h => by
    show (!(k0_cond2 (grid0.coords t) == 1#1)) = true
    simp [h]
  have hw0 : (st0_0 t).IsWhole := stage_whole0 0 _
  have hw1 : (st0_1 t).IsWhole := stage_whole0 1 _
  have hnofl : t.val ≠ 24 → (cfg0.win 1).flush t = false := fun h => by
    rw [← Bool.not_eq_true]; intro h'; have := (flush0_1 t).mp h'; omega
  have hnl : t.val ≠ 24 → ¬ k0_cond2 (grid0.coords t) = 1#1 := fun h h' => h ((last_iff t).mp h')
  rw [accΦ_succ V c t,
    show (dat V O B c).leavesExact 0 t = owns (c : Thread nD τ) (st0_0 t) fullShare (blk (V c main_v0) t) from rfl]
  simp only [before_in]
  rw [owns_open c hw0]
  by_cases h0 : t.val = 0
  · have h24 : t.val ≠ 24 := by omega
    rw [(dat V O B c).leavesExact_idle 1 t (hidle (hnl h24)) (hnofl h24), h0]
    simp only [accΦ, owns_open c hw1]
    iintro ⟨⟨%g, Hs⟩, Howes, ⟨%d0, %f0, %hf0, H0⟩, ⟨%d1, %f1, %hf1, H1⟩⟩
    iapply (run_first c (grid0.coords t) _ hw0 _ hw1 ((first_iff t).mpr h0) (hnl h24) f0 f1 g)
    isplitl [H0 H1 Hs]
    · isplitl [H0]; · iexact H0
      isplitl [H1]; · iexact H1
      iexact Hs
    iintro ⟨H0, H1, Hs⟩
    rw [hf0]
    isplitl [Hs]; · iexact Hs
    isplitl [Howes]; · iexact Howes
    isplitl [H0]; · iexists f0; isplitr; (· ipureintro; exact hf0); iexact H0
    iexists d1, f1; isplitr; (· ipureintro; exact hf1); iexact H1
  rw [accΦ_pos V c h0]
  by_cases h24 : t.val = 24
  · have hfl : (cfg0.win 1).flush t = true := (flush0_1 t).mpr (by rw [h24])
    have hl := (last_iff t).mpr h24
    rw [show (dat V O B c).leavesExact 1 t = owns (c : Thread nD τ) (st0_1 t) fullShare (fun _ => accT (V c main_v0) 25) from by
      unfold Dat.leavesExact; rw [hfl]; cases cfg0.idle 1 (cfg0.grid.coords t) <;> rfl, owns_open c hw1,
      show (25 : ℕ) = t.val + 1 by omega, accT_succ _ t]
    simp only [owns_open c hw1]
    iintro ⟨Hs, Howes, ⟨%d0, %f0, %hf0, H0⟩, ⟨%d1, %f1, %hf1, H1⟩⟩
    iapply (run_last c (grid0.coords t) _ hw0 _ hw1 (fun h => h0 ((first_iff t).mp h)) hl f0 f1 _)
    isplitl [H0 H1 Hs]
    · isplitl [H0]; · iexact H0
      isplitl [H1]; · iexact H1
      iexact Hs
    iintro ⟨%f1', %hf1', H0, H1, Hs⟩
    rw [hf0] at hf1' ⊢
    isplitl [Hs]; · iexact Hs
    isplitl [Howes]; · iexact Howes
    isplitl [H0]; · iexists f0; isplitr; (· ipureintro; exact hf0); iexact H0
    iexists f1'; isplitr; (· ipureintro; exact hf1'); iexact H1
  · rw [(dat V O B c).leavesExact_idle 1 t (hidle (hnl h24)) (hnofl h24)]
    simp only [owns_open c hw1]
    iintro ⟨Hs, Howes, ⟨%d0, %f0, %hf0, H0⟩, ⟨%d1, %f1, %hf1, H1⟩⟩
    iapply (run_mid c (grid0.coords t) _ hw0 _ hw1 (fun h => h0 ((first_iff t).mp h)) (hnl h24) f0 f1 _)
    isplitl [H0 H1 Hs]
    · isplitl [H0]; · iexact H0
      isplitl [H1]; · iexact H1
      iexact Hs
    iintro ⟨H0, H1, Hs⟩
    rw [hf0]
    isplitl [Hs]; · iexact Hs
    isplitl [Howes]; · iexact Howes
    isplitl [H0]; · iexists f0; isplitr; (· ipureintro; exact hf0); iexact H0
    iexists d1, f1; isplitr; (· ipureintro; exact hf1); iexact H1

/-! ## The result -/

/-- The one write-back, at the last point, writes the sum of the 25 blocks. -/
theorem flushed_eq (c : Dev nD) (t : Fin cfg0.N) (hf : (cfg0.win 1).flush t = true) :
    (dat V O B c).flushed 1 t = ((cfg0.win 1).blk t).view.read (Elt F) (fun _ => accT (V c main_v0) 25) := rfl

/-- The last point of the grid. -/
abbrev tLast : Fin cfg0.N := ⟨24, by decide⟩

/-- So the result's buffer ends at that sum. -/
theorem final_sum (c : Dev nD) : (dat V O B c).arrAt 1 cfg0.N = fun _ => accT (V c main_v0) 25 :=
  (dat V O B c).arrAt_eq_of_cover 1 _ (flushed_eq V O B c) fun i =>
    ⟨tLast, (flush0_1 _).mpr rfl, by
      show i ∈ ((View.whole main_v1).slice (win0_1.rect tLast)).set
      rw [View.set_slice_whole, Rect.mem_set_unit]
      intro a
      have ha : a = (0 : Fin 1) := Subsingleton.elim (α := Fin 1) a 0
      subst ha
      exact ⟨Nat.zero_le _, (i (0 : Fin 1)).isLt⟩⟩

/-! ## The call -/

/-- The call's pipeline takes no table. -/
abbrev adm : (p : Fin 1) → (pcfgs (F := F) p).Adm := fun q => (cfgs q).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat V O B c

variable (Vp : (c : Dev nD) → (b : Ref sig .tc) → Buf (Elt F) ((c : Thread nD τ).loc b))

set_option backward.isDefEq.respectTransparency.types false in
/-- The call, from every buffer of @main at `V` to the same with the result's at the sum, over what the core owes. -/
def reg (hO : ∀ c g ι, 0 < O c g ι → 0 < (K (F := F)).lev g ι) (hVp_out : ∀ c, Vp c main_v1 = fun _ => accT (V c main_v0) 25)
    (hVp_ne : ∀ c (b : Ref sig .tc), b ≠ main_v1 → Vp c b = V c b) :
    Pipeline.RegionSeg (pcfgs (F := F)) adm (pdats V O B) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V O B c).loose
  hwaits c := Pipeline.cellsWaits_of_cut _ (pdats V O B) none 0 c 0 (O c) (fun _ => rfl) (fun _ _ => Finset.mem_univ _) (fun _ _ => le_refl _)
    fun g ι h => ⟨Finset.mem_univ _, hO c g ι h⟩
  pre c := iprop(unscopedBufs c (V c) ∗ Pipeline.owesWithin c (O c) (B c))
  post c := iprop(unscopedBufs c (Vp c) ∗ Pipeline.owesWithin c (O c) (B c ∪ cfg0.waitPairs none))
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V O B) launch0.win launch0.arr_whole c
      ((pdats V O B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact hW.trans Set.subset_union_left
      iexact HO
    isplitr; · iempintro
    iexact Hrest
  hin c := by
    rw [show (pdats V O B 0 c).Φ 0 = iprop(∃ g, (sW).view.loc (c : Thread nD τ) ↦{fullShare} g) from rfl]
    iintro ⟨-, -, Hr⟩
    iapply (Entails.of_eq (scopedRest0_eq c)); iexact Hr
  hout c := by
    rw [Pipeline.ownSems0_none]
    have h : (pdats V O B 0 c).Φ (Fin.last _) ⊢ Pipeline.scopedRest (Ix := HIx 1) (Name := ℕ) (U := UU) (Lvl := ℕ) (Val := Elt F) spec0 c := by
      rw [show (pdats V O B 0 c).Φ (Fin.last _) = accΦ V c cfg0.N from rfl, accΦ_pos V c (by rw [show cfg0.N = 25 from N_0]; decide), scopedRest0_eq c]
      iintro H; iexists _; iexact H
    iintro Hr
    isplitr; · iempintro
    isplitr; · iempintro
    iapply h; iexact Hr
  hexit c := by
    have hjoin := Pipeline.unscopedBufs_of_arrays (p := 0) (pcfgs (F := F)) adm (Ix := HIx 1) (Name := ℕ) (U := UU) (Lvl := ℕ) launch0.win launch0.arr_whole c
      (pdats V O B) ((pdats V O B 0 c).share_full fun _ => rfl) (V c) (Vp c) ((pdats V O B 0 c).arrAt · cfg0.N)
      (fun w => by
        fin_cases w
        · exact ((pdats V O B 0 c).arrAt_in 0 rfl _).trans (hVp_ne c main_v0 (by decide)).symm
        · exact (final_sum V O B c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iexact HO

end Cert.Proof.Sum

end
-- ==== Proof.Main.lean ====
/-
  The whole kernel on the mesh: @main transposes the input, runs the pipelined sum on the TensorCore, pads the input,
  runs the two scalar subcores, and combines the two sums; the launch theorem gives the run of every thread, and with it
  what the result holds, that the arguments are as they were, and that every semaphore is at zero.
-/
module

public import proofs.«01_k».proof.Proof.Launch
public import proofs.«01_k».proof.Proof.Sum

@[expose] public section

noncomputable section

namespace Cert.Proof.Main

open Cert.KernelIdeal Cert.KernelIdeal.Gen Cert.Proof Cert.Proof.Gather
open Idealize.ShloMosaic Idealize.ShloMosaic.StableHlo
open Idealize.ShloMosaic.TcCoe
open Idealize.ShloMosaic.SparseCore (S T)
open Idealize.ShloMosaic.SparseCore.Cfg (HIx)
open Idealize.ShloMosaic.Rounds (initOf)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The host operations of @main, in three straight lines -/

/-- Before the sum: the transpose. -/
abbrev opsA : List (HloOp τ sig (Elt F)) :=
  [unary main_arg0 main_v0 ((transpose S100000x1024 [1, 0] · transposes_S1024x100000_S100000x1024_1_0) : (⟨S1024x100000, .f32⟩ : BufTy).Contents (Elt F) → (⟨S100000x1024, .f32⟩ : BufTy).Contents (Elt F))]
/-- Between the two calls: the padding. -/
abbrev opsB : List (HloOp τ sig (Elt F)) :=
  [nullary main_c (constantI S_ 32 0#32),
   TRef.unary (.of main_c : TRef sig ⟨S_, .i32⟩) main_call0.v0 (sitofp .f32),
   TRef.binary (.of main_arg0 : TRef sig ⟨S1024x100000, .f32⟩) main_call0.v0 main_call0.v1 (fun x v => pad S1024x100096 ![0, 0] ![0, 96] ![0, 0] x v pads_S1024x100000_S1024x100096_000_0960 h_S_)]
/-- After the gather: the two sums combined. -/
abbrev opsC : List (HloOp τ sig (Elt F)) :=
  [unary main_v3 main_v4 ((extractStridedSlice S2x1 ![0, 0] · slices_S2x8_S2x1_0_0) : (⟨S2x8, .f32⟩ : BufTy).Contents (Elt F) → (⟨S2x1, .f32⟩ : BufTy).Contents (Elt F)),
   reshape main_v4 main_v5 (rfl : (.f32 : EltTy) = .f32) shapeCasts_S2x1_S2,
   nullary main_cst (constant S_ .f32 0x00000000#32),
   binary main_v5 main_cst main_v6 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
   reshape main_v1 main_v7 (rfl : (.f32 : EltTy) = .f32) shapeCasts_S1_S_,
   nullary main_cst_0 (constant S_ .f32 0xBF666666#32),
   binary main_cst_0 main_v6 main_v8 (mulf : (⟨S_, .f32⟩ : BufTy).Contents (Elt F) → (⟨S_, .f32⟩ : BufTy).Contents (Elt F) → (⟨S_, .f32⟩ : BufTy).Contents (Elt F)),
   nullary main_cst_1 (constant S_ .f32 0x3DCCCCCD#32),
   binary main_cst_1 main_v7 main_v9 (mulf : (⟨S_, .f32⟩ : BufTy).Contents (Elt F) → (⟨S_, .f32⟩ : BufTy).Contents (Elt F) → (⟨S_, .f32⟩ : BufTy).Contents (Elt F)),
   nullary main_cst_2 (constant S_ .f32 0x4CC35000#32),
   binary main_v9 main_cst_2 main_v10 (Host.divf : (⟨S_, .f32⟩ : BufTy).Contents (Elt F) → (⟨S_, .f32⟩ : BufTy).Contents (Elt F) → (⟨S_, .f32⟩ : BufTy).Contents (Elt F)),
   binary main_v8 main_v10 main_v11 (subf : (⟨S_, .f32⟩ : BufTy).Contents (Elt F) → (⟨S_, .f32⟩ : BufTy).Contents (Elt F) → (⟨S_, .f32⟩ : BufTy).Contents (Elt F))]

/-- @main: the three lines around the two calls. -/
theorem main_eq (d : Dev nD) : main (F := F) d
    = (seq opsA >>= fun _ => Prog.lift (.customCall (SparseCore.inner (Pipeline.entry 0)) ()) >>= fun _ =>
        seq opsB >>= fun _ => sc.run d 0 >>= fun _ => seq opsC >>= fun _ => pure ⟨⟩) := rfl

/-- The TensorCore's unscoped buffers. -/
def US : Finset (DevRef τ sig) := (tcRefs τ sig).filter fun b => ¬ b.isScoped

theorem unscoped_held (d : Dev nD) (W : Valuation τ sig (Elt F)) :
    (unscopedBufs d (fun b => W b) : sProp 𝕄) = held (T d) US W := by
  unfold unscopedBufs held US tcRefs
  rw [Finset.filter_map, bigSep_map]
  rfl

theorem hA : ∀ op ∈ opsA (F := F), op.bufs ⊆ US := by
  refine List.forall_mem_cons.mpr ⟨?_, List.forall_mem_nil _⟩
  exact show ({(main_arg0 : DevRef τ sig), (main_v0 : DevRef τ sig)} : Finset _) ⊆ US by decide

theorem fA : ∀ op ∈ opsA (F := F), op.fresh = ∅ := by
  refine List.forall_mem_cons.mpr ⟨rfl, List.forall_mem_nil _⟩

theorem hB : ∀ op ∈ opsB (F := F), op.bufs ⊆ US :=
  List.forall_mem_cons.mpr ⟨show ({(main_c : DevRef τ sig)} : Finset _) ⊆ US by decide,
    List.forall_mem_cons.mpr ⟨show ({(main_c : DevRef τ sig), (main_call0_v0 : DevRef τ sig)} : Finset _) ⊆ US by decide,
    List.forall_mem_cons.mpr ⟨show ({(main_arg0 : DevRef τ sig), (main_call0_v0 : DevRef τ sig), (main_v2 : DevRef τ sig)} : Finset _) ⊆ US by decide,
    List.forall_mem_nil _⟩⟩⟩

theorem fB : ∀ op ∈ opsB (F := F), op.fresh = ∅ :=
  List.forall_mem_cons.mpr ⟨rfl, List.forall_mem_cons.mpr ⟨rfl, List.forall_mem_cons.mpr ⟨rfl, List.forall_mem_nil _⟩⟩⟩

theorem hC : ∀ op ∈ opsC (F := F), op.bufs ⊆ US :=
  List.forall_mem_cons.mpr ⟨show ({(main_v3 : DevRef τ sig), (main_v4 : DevRef τ sig)} : Finset _) ⊆ US by decide,
  List.forall_mem_cons.mpr ⟨show ({(main_v4 : DevRef τ sig), (main_v5 : DevRef τ sig)} : Finset _) ⊆ US by decide,
  List.forall_mem_cons.mpr ⟨show ({(main_cst : DevRef τ sig)} : Finset _) ⊆ US by decide,
  List.forall_mem_cons.mpr ⟨show ({(main_v5 : DevRef τ sig), (main_cst : DevRef τ sig), (main_v6 : DevRef τ sig)} : Finset _) ⊆ US by decide,
  List.forall_mem_cons.mpr ⟨show ({(main_v1 : DevRef τ sig), (main_v7 : DevRef τ sig)} : Finset _) ⊆ US by decide,
  List.forall_mem_cons.mpr ⟨show ({(main_cst_0 : DevRef τ sig)} : Finset _) ⊆ US by decide,
  List.forall_mem_cons.mpr ⟨show ({(main_cst_0 : DevRef τ sig), (main_v6 : DevRef τ sig), (main_v8 : DevRef τ sig)} : Finset _) ⊆ US by decide,
  List.forall_mem_cons.mpr ⟨show ({(main_cst_1 : DevRef τ sig)} : Finset _) ⊆ US by decide,
  List.forall_mem_cons.mpr ⟨show ({(main_cst_1 : DevRef τ sig), (main_v7 : DevRef τ sig), (main_v9 : DevRef τ sig)} : Finset _) ⊆ US by decide,
  List.forall_mem_cons.mpr ⟨show ({(main_cst_2 : DevRef τ sig)} : Finset _) ⊆ US by decide,
  List.forall_mem_cons.mpr ⟨show ({(main_v9 : DevRef τ sig), (main_cst_2 : DevRef τ sig), (main_v10 : DevRef τ sig)} : Finset _) ⊆ US by decide,
  List.forall_mem_cons.mpr ⟨show ({(main_v8 : DevRef τ sig), (main_v10 : DevRef τ sig), (main_v11 : DevRef τ sig)} : Finset _) ⊆ US by decide,
  List.forall_mem_nil _⟩⟩⟩⟩⟩⟩⟩⟩⟩⟩⟩⟩

theorem fC : ∀ op ∈ opsC (F := F), op.fresh = ∅ := by
  intro op hop
  simp only [List.mem_cons, List.not_mem_nil, or_false] at hop
  rcases hop with rfl | rfl | rfl | rfl | rfl | rfl | rfl | rfl | rfl | rfl | rfl | rfl <;> rfl

/-! ## What the buffers hold between the steps -/

variable (m : (ℓ : Loc nD τ sig) → Buf (Elt F) ℓ) (ρ : Dev nD → PrngReg)

/-- The input and the targets; -/
abbrev inp (d : Dev nD) : S1024x100000.Idx → Elt F .f32 := m ((SparseCore.T d).loc main_arg0)
abbrev tgt (d : Dev nD) : S1024.Idx → BitVec 32 := m ((SparseCore.T d).loc main_arg1)
/-- the input transposed, which the pipelined sum reads, and its sum; -/
def inpT (d : Dev nD) : S100000x1024.Idx → Elt F .f32 := transpose S100000x1024 [1, 0] (inp m d) transposes_S1024x100000_S100000x1024_1_0
def tot (d : Dev nD) : Elt F .f32 := Sum.accT (inpT m d) 25
/-- the input padded, which the subcores read. -/
def padded (d : Dev nD) : S1024x100096.Idx → Elt F .f32 :=
  pad S1024x100096 ![0, 0] ![0, 96] ![0, 0] (inp m d) (sitofp .f32 (constantI S_ 32 0#32)) pads_S1024x100000_S1024x100096_000_0960 h_S_

/-- The two subcores' sums and the total, combined. -/
def combine (ls : S2x8.Idx → Elt F .f32) (total : Elt F .f32) : S_.Idx → Elt F .f32 :=
  subf (mulf (constant S_ .f32 0xBF666666#32)
      (Host.reduceAdd (shapeCast S2 (extractStridedSlice S2x1 ![0, 0] ls slices_S2x8_S2x1_0_0) shapeCasts_S2x1_S2) (constant S_ .f32 0x00000000#32) reducesTo_S2_S_d0 h_S_))
    (Host.divf (mulf (constant S_ .f32 0x3DCCCCCD#32) (shapeCast S_ (fun _ : S1.Idx => total) shapeCasts_S1_S_)) (constant S_ .f32 0x4CC35000#32))

/-- Every buffer at the launch, after the transpose, after the sum, after the padding, after the gather that left `f`, and
    at the end. -/
def V0 (d : Dev nD) : Valuation τ sig (Elt F) := fun b => m (d, b)
def VA (d : Dev nD) : Valuation τ sig (Elt F) := after opsA (V0 m d)
def VS (d : Dev nD) : Valuation τ sig (Elt F) := Function.update (VA m d) (main_v1 : DevRef τ sig) (fun _ : S1.Idx => tot m d)
def VB (d : Dev nD) : Valuation τ sig (Elt F) := after opsB (VS m d)
def VG (d : Dev nD) (f : S2x8.Idx → Elt F .f32) : Valuation τ sig (Elt F) := Function.update (VB m d) (main_v3 : DevRef τ sig) f
def VC (d : Dev nD) (f : S2x8.Idx → Elt F .f32) : Valuation τ sig (Elt F) := after opsC (VG m d f)

theorem VA_v0 (d : Dev nD) : VA m d (main_v0 : DevRef τ sig) = inpT m d := by
  unfold VA; after_results_simp; rfl
theorem VA_arg0 (d : Dev nD) : VA m d (main_arg0 : DevRef τ sig) = inp m d := by
  unfold VA; after_results_simp; rfl
theorem VA_arg1 (d : Dev nD) : VA m d (main_arg1 : DevRef τ sig) = tgt m d := by
  unfold VA; after_results_simp; rfl
theorem VS_of (d : Dev nD) {b : DevRef τ sig} (h : b ≠ (main_v1 : DevRef τ sig)) : VS m d b = VA m d b := Function.update_of_ne h _ _
theorem VS_v1 (d : Dev nD) : VS m d (main_v1 : DevRef τ sig) = fun _ : S1.Idx => tot m d := Function.update_self _ _ _
theorem VB_v2 (d : Dev nD) : VB m d (main_v2 : DevRef τ sig) = padded m d := by
  unfold VB; after_results_simp
  rw [VS_of m d (show (main_arg0 : DevRef τ sig) ≠ main_v1 by decide), VA_arg0]
  rfl
theorem VB_arg0 (d : Dev nD) : VB m d (main_arg0 : DevRef τ sig) = inp m d := by
  unfold VB; after_results_simp
  rw [VS_of m d (show (main_arg0 : DevRef τ sig) ≠ main_v1 by decide), VA_arg0]
theorem VB_arg1 (d : Dev nD) : VB m d (main_arg1 : DevRef τ sig) = tgt m d := by
  unfold VB; after_results_simp
  rw [VS_of m d (show (main_arg1 : DevRef τ sig) ≠ main_v1 by decide), VA_arg1]
theorem VB_v1 (d : Dev nD) : VB m d (main_v1 : DevRef τ sig) = fun _ : S1.Idx => tot m d := by
  unfold VB; after_results_simp
  rw [VS_v1]
theorem VG_of (d : Dev nD) (f : S2x8.Idx → Elt F .f32) {b : DevRef τ sig} (h : b ≠ (main_v3 : DevRef τ sig)) : VG m d f b = VB m d b :=
  Function.update_of_ne h _ _
theorem VG_v3 (d : Dev nD) (f : S2x8.Idx → Elt F .f32) : VG m d f (main_v3 : DevRef τ sig) = f := Function.update_self _ _ _
theorem VC_v11 (d : Dev nD) (f : S2x8.Idx → Elt F .f32) : VC m d f (main_v11 : DevRef τ sig) = combine f (tot m d) := by
  unfold VC; after_results_simp
  rw [VG_v3, VG_of m d f (show (main_v1 : DevRef τ sig) ≠ main_v3 by decide), VB_v1]
  rfl
theorem VC_arg0 (d : Dev nD) (f : S2x8.Idx → Elt F .f32) : VC m d f (main_arg0 : DevRef τ sig) = inp m d := by
  unfold VC; after_results_simp
  rw [VG_of m d f (show (main_arg0 : DevRef τ sig) ≠ main_v3 by decide), VB_arg0]
theorem VC_arg1 (d : Dev nD) (f : S2x8.Idx → Elt F .f32) : VC m d f (main_arg1 : DevRef τ sig) = tgt m d := by
  unfold VC; after_results_simp
  rw [VG_of m d f (show (main_arg1 : DevRef τ sig) ≠ main_v3 by decide), VB_arg1]

/-- The combination reads the first column of the subcores' sums alone. -/
theorem combine_congr {f g : S2x8.Idx → Elt F .f32} (h : ∀ j : S2x8.Idx, (j 1).val = 0 → f j = g j) (total : Elt F .f32) :
    combine f total = combine g total := by
  have e : extractStridedSlice S2x1 ![0, 0] f slices_S2x8_S2x1_0_0 = extractStridedSlice S2x1 ![0, 0] g slices_S2x8_S2x1_0_0 := by
    funext j
    refine h _ ?_
    have := (j 1).isLt
    change _ < 1 at this
    change 0 + (j 1).val = 0
    omega
  unfold combine; rw [e]

/-! ## What the gather takes from the buffers, and gives back -/

theorem out_emb1 (i : grid1.Coords) (z : S1.Idx) : (outIx i z 1).val = 0 := by
  have h := ((Shape.reshapeEquiv (s := S1x1) squeezes_S1x1_S1.numel_eq z) 1).isLt
  change _ < 1 at h
  change k1_off8 i 1 + 1 * ((Shape.reshapeEquiv (s := S1x1) squeezes_S1x1_S1.numel_eq z) 1).val = 0
  rw [show k1_off8 i 1 = 0 from rfl]
  omega

/-- A subcore's part of the result lies in its row, -/
theorem mem_oSet {c : Fin (grid1.bound 0)} {j : S2x8.Idx} (h : j ∈ oSet c) : (j 0).val = c.val := by
  obtain ⟨z, -, rfl⟩ := Finset.mem_map.mp h
  exact out_emb0 (coordsS c) z
/-- and is the row's first column. -/
theorem first_mem_oSet (j : S2x8.Idx) (h : (j 1).val = 0) : j ∈ oSet ⟨(j 0).val, (j 0).isLt⟩ := by
  refine Finset.mem_map.mpr ⟨fun a => ⟨0, match a with | 0 => Nat.one_pos⟩, Finset.mem_univ _, ?_⟩
  funext a
  refine Fin.ext ?_
  match a with
  | 0 => exact out_emb0 (coordsS ⟨(j 0).val, (j 0).isLt⟩) _
  | 1 => exact (out_emb1 (coordsS ⟨(j 0).val, (j 0).isLt⟩) _).trans h.symm

abbrev c0 : Fin (grid1.bound 0) := ⟨0, by decide⟩
abbrev c1 : Fin (grid1.bound 0) := ⟨1, by decide⟩

theorem oSet_disjoint : Disjoint (oSet c0) (oSet c1) :=
  Finset.disjoint_left.mpr fun _ h0 h1 => absurd ((mem_oSet h0).symm.trans (mem_oSet h1)) (by decide)
theorem oSet1_sub : oSet c1 ⊆ Finset.univ \ oSet c0 := fun _ h =>
  Finset.mem_sdiff.mpr ⟨Finset.mem_univ _, fun h0 => Finset.disjoint_left.mp oSet_disjoint h0 h⟩

section Deal
variable (x : Dev nD → S1024x100096.Idx → Elt F .f32) (t : Dev nD → S1024.Idx → BitVec 32)

/-- What the TensorCore keeps during the call; -/
def keep (d : Dev nD) (f : S2x8.Idx → Elt F .f32) : sProp 𝕄 :=
  iprop((xLoc d ↦{Transfers.shareDrop fullShare 2} x d) ∗ (tLoc d ↦{Transfers.shareDrop fullShare 2} (t d : S1024.Idx → Elt F .i32))
    ∗ (oLoc d ↦[(Finset.univ \ oSet c0) \ oSet c1]{fullShare} f))
/-- the result after it. -/
def mix (d : Dev nD) (f : S2x8.Idx → Elt F .f32) : S2x8.Idx → Elt F .f32 :=
  fun j => if j ∈ oSet c0 ∨ j ∈ oSet c1 then sums (x d) (t d) j else f j

theorem mix_first (d : Dev nD) (f : S2x8.Idx → Elt F .f32) (j : S2x8.Idx) (h : (j 1).val = 0) : mix x t d f j = sums (x d) (t d) j := by
  refine if_pos ?_
  have hm := first_mem_oSet j h
  have hj : (j 0).val < 2 := (j 0).isLt
  rcases (show (j 0).val = 0 ∨ (j 0).val = 1 by omega) with h0 | h0
  · left; rwa [show (⟨(j 0).val, (j 0).isLt⟩ : Fin (grid1.bound 0)) = c0 from Fin.ext h0] at hm
  · right; rwa [show (⟨(j 0).val, (j 0).isLt⟩ : Fin (grid1.bound 0)) = c1 from Fin.ext h0] at hm

theorem deal (d : Dev nD) (f : S2x8.Idx → Elt F .f32) :
    (iprop((xLoc d ↦{fullShare} x d) ∗ (tLoc d ↦{fullShare} (t d : S1024.Idx → Elt F .i32)) ∗ (oLoc d ↦{fullShare} f)) : sProp 𝕄)
      ⊢ iprop((bigSep Finset.univ fun c : Fin ((K (F := F)).nCore 0) => (P x t).st 0 d c) ∗ keep x t d f) := by
  rw [show (bigSep Finset.univ fun c : Fin ((K (F := F)).nCore 0) => (P x t).st 0 d c)
      = iprop((xTok x d c0 ∗ tTok t d c0 ∗ ∃ f, oPart d c0 f) ∗ (xTok x d c1 ∗ tTok t d c1 ∗ ∃ f, oPart d c1 f)) from bigSep_univ_two _]
  unfold keep
  iintro ⟨Hx, Ht, Ho⟩
  ihave Hx := (Transfers.pointsTo_toks_split fullShare 2) $$ Hx
  ihave Ht := (Transfers.pointsTo_toks_split fullShare 2) $$ Ht
  rw [bigSep_univ_two, bigSep_univ_two]
  ihave Ho := (pointsTo_split_subset (ℓ := oLoc d) (q := fullShare) (f := f) (Finset.subset_univ (oSet c0))).1 $$ Ho
  icases Ho with ⟨Ho0, Ho⟩
  ihave Ho := (pointsTo_split_subset (ℓ := oLoc d) (q := fullShare) (f := f) oSet1_sub).1 $$ Ho
  icases Ho with ⟨Ho1, Ho⟩
  icases Hx with ⟨Hx, Hx0, Hx1⟩
  icases Ht with ⟨Ht, Ht0, Ht1⟩
  isplitl [Hx0 Hx1 Ht0 Ht1 Ho0 Ho1]
  · isplitl [Hx0 Ht0 Ho0]
    · isplitl [Hx0]; · iexact Hx0
      isplitl [Ht0]; · iexact Ht0
      iexists f; iexact Ho0
    · isplitl [Hx1]; · iexact Hx1
      isplitl [Ht1]; · iexact Ht1
      iexists f; iexact Ho1
  isplitl [Hx]; · iexact Hx
  isplitl [Ht]; · iexact Ht
  iexact Ho

theorem gatherUp (d : Dev nD) (f : S2x8.Idx → Elt F .f32) :
    (iprop((bigSep Finset.univ fun c : Fin ((K (F := F)).nCore 0) => (P x t).dn 0 d c) ∗ keep x t d f) : sProp 𝕄)
      ⊢ iprop((xLoc d ↦{fullShare} x d) ∗ (tLoc d ↦{fullShare} (t d : S1024.Idx → Elt F .i32)) ∗ (oLoc d ↦{fullShare} mix x t d f)) := by
  rw [show (bigSep Finset.univ fun c : Fin ((K (F := F)).nCore 0) => (P x t).dn 0 d c)
      = iprop((xTok x d c0 ∗ tTok t d c0 ∗ oPart d c0 (sums (x d) (t d))) ∗ (xTok x d c1 ∗ tTok t d c1 ∗ oPart d c1 (sums (x d) (t d)))) from bigSep_univ_two _]
  have e0 : (oPart d c0 (sums (x d) (t d)) : sProp 𝕄) = oPart d c0 (mix x t d f) :=
    pointsTo_congr fun j hj => (if_pos (Or.inl hj)).symm
  have e1 : (oPart d c1 (sums (x d) (t d)) : sProp 𝕄) = oPart d c1 (mix x t d f) :=
    pointsTo_congr fun j hj => (if_pos (Or.inr hj)).symm
  have e2 : (oLoc d ↦[(Finset.univ \ oSet c0) \ oSet c1]{fullShare} f : sProp 𝕄) = oLoc d ↦[(Finset.univ \ oSet c0) \ oSet c1]{fullShare} mix x t d f :=
    pointsTo_congr fun j hj => (if_neg (by
      have h1 := Finset.mem_sdiff.mp hj
      have h0 := Finset.mem_sdiff.mp h1.1
      exact fun h => h.elim h0.2 h1.2)).symm
  unfold keep
  rw [e0, e1, e2]
  iintro ⟨⟨⟨Hx0, Ht0, Ho0⟩, ⟨Hx1, Ht1, Ho1⟩⟩, Hx, Ht, Ho⟩
  isplitl [Hx0 Hx1 Hx]
  · iapply (Transfers.pointsTo_toks_join fullShare 2)
    rw [bigSep_univ_two]
    isplitl [Hx]; · iexact Hx
    isplitl [Hx0]; · iexact Hx0
    iexact Hx1
  isplitl [Ht0 Ht1 Ht]
  · iapply (Transfers.pointsTo_toks_join fullShare 2)
    rw [bigSep_univ_two]
    isplitl [Ht]; · iexact Ht
    isplitl [Ht0]; · iexact Ht0
    iexact Ht1
  iapply (pointsTo_split_subset (ℓ := oLoc d) (q := fullShare) (f := mix x t d f) (Finset.subset_univ (oSet c0))).2
  isplitl [Ho0]; · iexact Ho0
  iapply (pointsTo_split_subset (ℓ := oLoc d) (q := fullShare) (f := mix x t d f) oSet1_sub).2
  isplitl [Ho1]; · iexact Ho1
  iexact Ho

end Deal

/-! ## The launch's ghost state -/

theorem phinj : Function.Injective (Pipeline.cellOf (nD := nD) (τ := τ) (Pipeline.pin (pcfgs (F := F)) Sum.adm)) := by
  exact launch0.cellOf_inj

/-- The handshakes' rounds, the pipeline's, and no counter. -/
def u₀ : UU := (initOf (K (F := F)).hsCells (K (F := F)).hsToks,
  (initOf (Pipeline.cells (Pipeline.pin (pcfgs (F := F)) Sum.adm) phinj) (Pipeline.launchToks (Pipeline.pin (pcfgs (F := F)) Sum.adm) phinj), 1))

/-- What a TensorCore holds of the pipeline's rounds. -/
def G (d : Dev nD) : sProp 𝕄 :=
  iprop(Pipeline.cellsGhost (Pipeline.pin (pcfgs (F := F)) Sum.adm) EP 0 d ∗ Pipeline.toksInit (Pipeline.pin (pcfgs (F := F)) Sum.adm) EP 0 d)

abbrev PP : (K (F := F)).Pay (nD := nD) (Val := Elt F) (Name := ℕ) (U := UU) := P (padded m) (tgt m)

theorem own_EP (a : UP) (b : Counters) : (BI.own (embR (A := UH) (a, b)) : sProp 𝕄) ⊢ BI.own (EP (F := F) a) :=
  (own_pair_emb embR a b).trans sep_elim_left

theorem one_pipe (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (PP m).x q thr) := by
  unfold u₀
  iintro Hu
  ihave H := (ownU_pair (initOf (K (F := F)).hsCells (K (F := F)).hsToks)
    (initOf (Pipeline.cells (Pipeline.pin (pcfgs (F := F)) Sum.adm) phinj) (Pipeline.launchToks (Pipeline.pin (pcfgs (F := F)) Sum.adm) phinj), (1 : Counters))) $$ Hu
  icases H with ⟨HH, HR⟩
  ihave HP := (own_EP _ _) $$ HR
  imod (Pipeline.fund_ghost (Pipeline.pin (pcfgs (F := F)) Sum.adm) EP phinj) $$ HP with ⟨Hc, Ht⟩
  imodintro
  isplitl [HH]; · iexact HH
  isplitl [Hc Ht]
  · ihave Hc := (Entails.of_eq (one_pipe _)) $$ Hc
    ihave Ht := (Entails.of_eq (one_pipe _)) $$ Ht
    iapply (Entails.of_eq (bigSep_sep' Finset.univ _ _).symm)
    isplitl [Hc]; · iexact Hc
    iexact Ht
  iapply (show (iprop(emp) : sProp 𝕄) ⊢ bigSep Finset.univ fun thr : Thread nD τ => bigSep Finset.univ fun q : Fin 1 => (PP m).x q thr from
    Entails.of_eq ((bigSep_congr fun _ _ => bigSep_univ_of_subsingleton (0 : Fin 1)).trans (bigSep_emp_const _)).symm)
  iempintro

/-! ## @main on the TensorCore -/

/-- The three arrays of the gather, out of the buffers. -/
abbrev S3 : Finset (DevRef τ sig) := {(main_v2 : DevRef τ sig), (main_arg1 : DevRef τ sig), (main_v3 : DevRef τ sig)}
theorem S3_sub : S3 ⊆ US := by decide
theorem held_S3 (d : Dev nD) (W : Valuation τ sig (Elt F)) :
    (held (T d) US W : sProp 𝕄)
      = iprop(((xLoc d ↦{fullShare} W (main_v2 : DevRef τ sig)) ∗ (tLoc d ↦{fullShare} W (main_arg1 : DevRef τ sig)) ∗ (oLoc d ↦{fullShare} W (main_v3 : DevRef τ sig)))
          ∗ held (T d) (US \ S3) W) := by
  rw [held_sub_split _ S3_sub]
  congr 1
  unfold held S3
  rw [SparseCore.bigSep_insert' (by decide), SparseCore.bigSep_insert' (by decide), bigSep_singleton]

/-- The other buffers do not see what the gather leaves. -/
theorem rest_VG (d : Dev nD) (f : S2x8.Idx → Elt F .f32) : (held (T d) (US \ S3) (VB m d) : sProp 𝕄) = held (T d) (US \ S3) (VG m d f) :=
  held_congr _ fun b hb => (VG_of m d f (b := b) (by
    rintro rfl
    exact (Finset.mem_sdiff.mp hb).2 (by decide))).symm

/-- What @main leaves the claim: the arguments as they were, and the result. -/
abbrev S4 : Finset (DevRef τ sig) := {(main_arg0 : DevRef τ sig), (main_arg1 : DevRef τ sig), (main_v11 : DevRef τ sig)}
theorem S4_sub : S4 ⊆ US := by decide
/-- The result: the two sums over the padded input and the total, combined. -/
def result (d : Dev nD) : S_.Idx → Elt F .f32 := combine (sums (padded m d) (tgt m d)) (tot m d)
abbrev aLoc (d : Dev nD) : Loc nD τ sig := (SparseCore.T d).loc main_arg0
abbrev rLoc (d : Dev nD) : Loc nD τ sig := (SparseCore.T d).loc main_v11
def FIN (d : Dev nD) : sProp 𝕄 :=
  iprop((aLoc d ↦{fullShare} inp m d) ∗ (tLoc d ↦{fullShare} m (tLoc d)) ∗ (rLoc d ↦{fullShare} result m d))
theorem held_FIN (d : Dev nD) (f : S2x8.Idx → Elt F .f32) (hf : ∀ j : S2x8.Idx, (j 1).val = 0 → f j = sums (padded m d) (tgt m d) j) :
    (held (T d) US (VC m d f) : sProp 𝕄) = iprop(FIN m d ∗ held (T d) (US \ S4) (VC m d f)) := by
  rw [held_sub_split _ S4_sub]
  congr 1
  unfold held S4 FIN result
  rw [SparseCore.bigSep_insert' (by decide), SparseCore.bigSep_insert' (by decide), bigSep_singleton, VC_arg0, VC_arg1, VC_v11, combine_congr hf]

/-- What the TensorCore owes before the gather, and the levels of what it has waited on. -/
abbrev OO (d : Dev nD) : CellTallies nD τ sig (HIx 1) := (K (F := F)).Otc d 0
abbrev BB (d : Dev nD) : Set (SemLoc sig × HIx 1) := {p | (K (F := F)).lev (T d, p.1) p.2 ≤ 0}

/-- The sum's region, from the buffers after the transpose to the buffers after the sum. -/
def region : Pipeline.RegionSeg (pcfgs (F := F)) Sum.adm (Sum.pdats (fun c b => VA m c b) (OO (F := F)) (BB (F := F))) none defs₀ 𝒱₀ (K (F := F)).L (K (F := F)).lev 0 :=
  Sum.reg (fun c b => VA m c b) (OO (F := F)) (BB (F := F)) (fun c b => VS m c b)
    (fun _ _ _ h => lt_of_lt_of_le (Nat.succ_pos _) (SparseCore.Cfg.lev_of_Otc_pos h))
    (fun c => (VS_v1 m c).trans (by unfold tot; rw [VA_v0]; rfl))
    (fun c b hb => VS_of m c fun h => hb (Proc.devRef_injective _ h))

theorem region_pre (d : Dev nD) : (region m).pre d = iprop(unscopedBufs d (fun b => VA m d b) ∗ Pipeline.owesWithin d ((K (F := F)).Otc d 0) (BB (F := F) d)) := rfl
theorem region_post (d : Dev nD) :
    (region m).post d = iprop(unscopedBufs d (fun b => VS m d b) ∗ Pipeline.owesWithin d ((K (F := F)).Otc d 0) (BB (F := F) d ∪ cfg0.waitPairs none)) := rfl

set_option backward.isDefEq.respectTransparency.types false in
/-- The sum's call below the launch's handshakes: from the boundary, the buffers after the transpose and the handshakes'
    state, to the buffers after the sum; -/
theorem wp_sum₀ (κ : GSem nD τ sig → ℕ) (d : Dev nD) (Φ : PUnit → sProp 𝕄) :
    iprop((K (F := F)).ctx EH (PP m) κ ∗ (K (F := F)).tcSt EH d 0 ∗ boundary (T d) ∗ held (T d) US (VA m d) ∗ G (F := F) d
        ∗ (((K (F := F)).tcSt EH d 0 ∗ boundary (T d) ∗ held (T d) US (VS m d)) -∗ Φ ⟨⟩))
      ⊢ wp frame (wpE (D (F := F)) 𝒱 (SparseCore.T d) none) Set.univ
          (.op (.customCall (Pipeline.entry 0) ()) .ret : Prog (TpuEff nD τ sig (Elt F) (ΛP (F := F)) .tc) PUnit) Φ := by
  unfold SparseCore.Cfg.tcSt G
  iintro ⟨#Hctx, ⟨⟨%W, %hW, HO⟩, Hrest⟩, Hb, Hheld, ⟨Hc, Ht⟩, Hk⟩
  ihave Hlv := (SparseCore.Cfg.ctx_levAts κ) $$ Hctx
  iapply (Pipeline.RegionSeg.wp (pcfgs (F := F)) Sum.adm _ none phinj EP defs₀ 𝒱₀ (K (F := F)).L (K (F := F)).lev (region m) d none (fun _ h => nomatch h))
  isplitl [Hk Hrest]
  · iintro ⟨Hb, Hpost⟩
    rw [wp_ret]; imodintro
    ihave Hpost := (Entails.of_eq (region_post m d)) $$ Hpost
    icases Hpost with ⟨Hub, HO⟩
    unfold Pipeline.owesWithin
    icases HO with ⟨%W', %hW', HO⟩
    iapply Hk
    isplitl [HO Hrest]
    · isplitl [HO]
      · iexists W'; isplitr
        · ipureintro
          intro p hp
          rcases hW' hp with h | ⟨w, s, rfl⟩
          · exact h
          · exact Nat.zero_le _
        iexact HO
      iexact Hrest
    isplitl [Hb]; · iexact Hb
    iapply (Entails.of_eq (unscoped_held d (VS m d))); iexact Hub
  isplitl [Hb]; · iexact Hb
  isplitl [Hheld HO]
  · iapply (Entails.of_eq (region_pre m d).symm)
    isplitl [Hheld]
    · iapply (Entails.of_eq (unscoped_held d (VA m d)).symm); iexact Hheld
    unfold Pipeline.owesWithin
    iexists W; isplitr
    · ipureintro; exact fun p hp => hW p hp
    iexact HO
  isplitr; · iexact Hlv
  isplitl [Hc]; · iexact Hc
  iexact Ht

/-- and as @main makes it. -/
theorem wp_sum (κ : GSem nD τ sig → ℕ) (d : Dev nD) (Φ : PUnit → sProp 𝕄) :
    iprop((K (F := F)).ctx EH (PP m) κ ∗ (K (F := F)).tcSt EH d 0 ∗ boundary (T d) ∗ held (T d) US (VA m d) ∗ G (F := F) d
        ∗ (((K (F := F)).tcSt EH d 0 ∗ boundary (T d) ∗ held (T d) US (VS m d)) -∗ Φ ⟨⟩))
      ⊢ wp frame (wpE ((K (F := F)).defs (D (F := F))) 𝒱 (SparseCore.T d) none) Set.univ
          (Prog.lift (.customCall (SparseCore.inner (Pipeline.entry 0)) ())) Φ := by
  have hlift : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret : Prog (TpuEff nD τ sig (Elt F) (ΛP (F := F)) .tc) PUnit) := rfl
  rw [hlift]
  exact (wp_sum₀ m κ d Φ).trans ((K (F := F)).wp_liftProg (D (F := F)) 𝒱 (SparseCore.T d) Set.univ none _ Φ)

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) US (V0 m d) from unscoped_held d (V0 m d), main_eq]
  iintro ⟨#Hctx, Hst, ⟨Hb, Hheld, Hts, -⟩, HG⟩
  -- the transpose
  iapply (wp_seq 𝒱 none Set.univ d US _ opsA hA fA (V0 m d)) $$ [Hb Hheld]
  · isplitl [Hb] <;> iassumption
  iintro ⟨Hb, Hheld⟩
  -- the sum
  rw [wp_bind]
  iapply (wp_sum m κ d) $$ [Hst Hb Hheld HG Hts]
  isplitr; · iexact Hctx
  isplitl [Hst]; · iexact Hst
  isplitl [Hb]; · iexact Hb
  isplitl [Hheld]; · iexact Hheld
  isplitl [HG]; · iexact HG
  iintro ⟨Hst, Hb, Hheld⟩
  -- the padding
  iapply (wp_seq 𝒱 none Set.univ d US _ opsB hB fB (VS m d)) $$ [Hb Hheld]
  · isplitl [Hb] <;> iassumption
  iintro ⟨Hb, Hheld⟩
  -- the gather
  rw [show after opsB (VS m d) = VB m d from rfl]
  ihave Hh := (Entails.of_eq (held_S3 d (VB m d))) $$ Hheld
  rw [VB_v2, VB_arg1]
  icases Hh with ⟨H3, Hheld⟩
  ihave H3 := (deal (padded m) (tgt m) d _) $$ H3
  icases H3 with ⟨Hpay, Hkeep⟩
  rw [wp_bind]
  iapply ((K (F := F)).wp_run (D (F := F)) 𝒱 (EH := EH) (P := PP m) κ d 0) $$ [Hst Hpay Hb Hheld Hkeep Hts]
  isplitr; · iexact Hctx
  isplitl [Hst]; · iexact Hst
  isplitl [Hpay]; · iexact Hpay
  iintro ⟨Hst, Hdn⟩
  ihave H3 := (gatherUp (padded m) (tgt m) d _) $$ [Hdn Hkeep]
  · isplitl [Hdn] <;> iassumption
  -- the combination
  iapply (wp_seq 𝒱 none Set.univ d US _ opsC hC fC (VG m d (mix (padded m) (tgt m) d (VB m d (main_v3 : DevRef τ sig))))) $$ [Hb Hheld H3]
  · isplitl [Hb]; · iexact Hb
    iapply (Entails.of_eq (held_S3 d _).symm)
    rw [VG_v3, VG_of m d _ (show (main_v2 : DevRef τ sig) ≠ main_v3 by decide), VG_of m d _ (show (main_arg1 : DevRef τ sig) ≠ main_v3 by decide), VB_v2, VB_arg1]
    isplitl [H3]; · iexact H3
    iapply (Entails.of_eq (rest_VG m d _)); iexact Hheld
  iintro ⟨Hb, Hheld⟩
  rw [show after opsC (VG m d (mix (padded m) (tgt m) d (VB m d (main_v3 : DevRef τ sig)))) = VC m d (mix (padded m) (tgt m) d (VB m d (main_v3 : DevRef τ sig))) from rfl]
  ihave Hh := (Entails.of_eq (held_FIN m d _ (mix_first (padded m) (tgt m) d _))) $$ Hheld
  icases Hh with ⟨HF, -⟩
  rw [wp_pure]; imodintro
  isplitl [Hst]; · iexact Hst
  isplitl [HF]; · iexact HF
  isplitl [Hb] <;> iassumption

/-! ## The run of the mesh -/

/-- What the claims read of a device's memory at the end. -/
def fq (d : Dev nD) (s' : Phys nD τ sig (Elt F)) : Prop :=
  s'.mem.mem (rLoc d) = result m d ∧ s'.mem.mem (aLoc d) = m (aLoc d) ∧ s'.mem.mem (tLoc d) = m (tLoc d)

/-- A buffer held whole is what memory holds. -/
theorem read_whole (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨Ha, Ht, Hr⟩, HSI⟩
  ihave H := (read_whole (aLoc d) (inp m d) s') $$ [Ha HSI]
  · isplitl [Ha] <;> iassumption
  icases H with ⟨%ha, HSI⟩
  ihave H := (read_whole (tLoc d) (m (tLoc d)) s') $$ [Ht HSI]
  · isplitl [Ht] <;> iassumption
  icases H with ⟨%ht, HSI⟩
  ihave H := (read_whole (rLoc d) (result m d) s') $$ [Hr HSI]
  · isplitl [Hr] <;> iassumption
  icases H with ⟨%hr, -⟩
  ipureintro
  exact ⟨hr, ha, ht⟩

/-- At the end of the run: the result, the arguments as they were, and every semaphore at zero. -/
def Post : PUnit × MemSt nD τ sig (Elt F) → Prop := fun r =>
  (∀ d : Dev nD, r.2.mem (rLoc d) = result m d ∧ r.2.mem (aLoc d) = m (aLoc d) ∧ r.2.mem (tLoc d) = m (tLoc d)) ∧ r.2.sem = fun _ => 0

/-- The kernel runs from any memory whose targets are column numbers. -/
theorem run_main [∀ e, Nonempty (Elt F e)] (ht : ∀ d j, (tgt m d j).toNat < 100000) :
    θ_run (defs (F := F)) (threads (F := F)) ⟨m, fun _ => 0, ρ⟩ (Post m) :=
  SparseCore.Cfg.θ_run_sc_quiescent (K := K (F := F)) (D := D (F := F)) (𝒱 := 𝒱) (EH := EH) (P := PP m) (A := ∅) launchFacts v₀
    (fun q _ => match q with | 0 => scalarObl (padded m) (tgt m) ht)
    (fun q hq => match q with | 0 => nomatch hq)
    (fun q hq => match q with | 0 => nomatch hq)
    m ρ main (G (F := F)) (FIN m) (u₀ (F := F)) (sep_elim_left.trans (hu₀ m)) (hmain m ρ) (fq m) (hfin m) (Post m) (fun _ h hz => ⟨h, hz⟩)

end Cert.Proof.Main

end
-- ==== Proof.SameText.lean ====
/-
  The kernel as printed and the kernel printed for the extended reals have the same text: their bodies, their host
  programs and so their threads are equal over any float values, and a run of the second is a run of the first.
-/
module

public import proofs.«01_k».proof.Defs
public import proofs.«01_k».proof.Proof.Gen.Kernel
public import proofs.«01_k».proof.Proof.Gen.KernelIdeal

@[expose] public section

noncomputable section

namespace Cert.Proof.SameText

open Idealize.ShloMosaic Idealize.SL.Sem

variable {F : FTy → Type} [FloatOps F]

/-- The bodies of the two calls, processor by processor. -/
theorem bodies : Cert.Kernel.defs₀ (F := F) = Cert.KernelIdeal.defs₀ (F := F) := by
  funext p ℓ a
  unfold Cert.Kernel.defs₀ Cert.KernelIdeal.defs₀
  match p, ℓ, a with
  | .tc, 0, (_, _) => rfl
  | .scScalar _, 1, _ => rfl
  | .tc, 1, _ => rfl
  | .scScalar _, 0, _ => rfl
  | .scVector _ _, 0, _ => rfl
  | .scVector _ _, 1, _ => rfl

/-- With the pipeline's and the launch's around them. -/
theorem defs : Cert.Kernel.defs (F := F) = Cert.KernelIdeal.defs (F := F) := by
  unfold Cert.Kernel.defs Cert.KernelIdeal.defs
  rw [bodies]
  rfl

set_option maxHeartbeats 1000000 in
/-- The host programs. -/
theorem main : Cert.Kernel.main (F := F) = Cert.KernelIdeal.main (F := F) := by
  funext d
  unfold Cert.Kernel.main Cert.KernelIdeal.main Cert.Kernel.fn_pad.body Cert.KernelIdeal.fn_pad.body
  rfl

/-- The threads. -/
theorem threads : Cert.Kernel.threads (F := F) = Cert.KernelIdeal.threads (F := F) := by
  unfold Cert.Kernel.threads Cert.KernelIdeal.threads
  rw [main]
  rfl

/-- A run of the one is a run of the other. -/
theorem run {m : (ℓ : Loc Cert.Kernel.nD Cert.Kernel.τ Cert.Kernel.sig) → Buf (Elt F) ℓ} {ρ : Dev Cert.Kernel.nD → PrngReg}
    {Q : PUnit × MemSt Cert.Kernel.nD Cert.Kernel.τ Cert.Kernel.sig (Elt F) → Prop}
    (h : θ_run (Cert.KernelIdeal.defs (F := F)) (Cert.KernelIdeal.threads (F := F)) ⟨m, fun _ => 0, ρ⟩ Q) :
    θ_run (Cert.Kernel.defs (F := F)) (Cert.Kernel.threads (F := F)) ⟨m, fun _ => 0, ρ⟩ Q := by
  rw [defs, threads]
  exact h

end Cert.Proof.SameText

end
-- ==== Proof.Range.lean ====
/-
  What the precondition says: every target is a column number, non-negative and below 100000.
-/
module

public import proofs.«01_k».proof.Defs
public import proofs.«01_k».proof.Proof.Gen.Pre_in_range
public import Idealize.ShloMosaic.Lib.ReduceAll
public import Idealize.ShloMosaic.Lib.WordCmp

@[expose] public section

noncomputable section

namespace Cert.Proof.Range

open Idealize.ShloMosaic Cert.Pre_in_range Cert.Pre_in_range.Gen

variable {F : FTy → Type} [FloatOps F]

/-- Where the predicate is one, every target is below 100000. -/
theorem of_pre (x : FVec F S1024x100000 .f32) (t : IVec S1024 32) (h : fn (F := F) x t = fun _ => 1#1) (j : S1024.Idx) :
    (t j).toNat < 100000 := by
  have hj := Host.reduce_andi_all _ _ _ _ _ (congrFun h (fun a => a.elim0)) j
  have e : IntOp.andi (IntOp.cmpi .sge (t j) 0#32) (IntOp.cmpi .slt (t j) 100000#32) = 1#1 := hj
  rw [show (100000#32 : BitVec 32) = BitVec.ofNat 32 100000 from rfl, WordCmp.andi_sge_zero_slt_ofNat (by norm_num)] at e
  by_contra hn
  rw [decide_eq_false hn] at e
  exact absurd e (by decide)

end Cert.Proof.Range

end
-- ==== Proof.RefValue.lean ====
/-
  What the reference computes over the extended reals: with every target a column number, the entries it takes along the
  columns are the entries under the targets, so its result is a multiple of the sum of those minus a multiple of the mean
  of all entries.
-/
module

public import proofs.«01_k».proof.Proof.Gen.ReferenceIdeal.Run
public import Idealize.ShloMosaic.Lib.Pointwise
public import Idealize.ShloMosaic.Lib.Pointwise.Tactic
public import Idealize.ShloMosaic.Lib.Pointwise.Reduce
public import Idealize.ShloMosaic.Lib.Pointwise.Reshape
public import Idealize.ShloMosaic.Lib.ReduceAll
public import Idealize.ShloMosaic.Lib.WordCmp
public import Idealize.ShloMosaic.Lib.ValueIdx

@[expose] public section

noncomputable section

namespace Cert.Proof.RefValue

open Cert.ReferenceIdeal Cert.ReferenceIdeal.Gen
open Idealize.ShloMosaic

/-- The gather takes row `r`'s entry at the row's start index, clamped into the columns. -/
theorem gather_at (x : FVec Ideal S1024x100000 .f32) (idx : IVec S1024x1x1 32) (r : Fin 1024) (q : Fin 1) :
    Host.gather gather_S1024x100000_S1024x1x1_S1024x1_n_1_0_0_1_2_11 x idx (ix2 r q)
      = x (ix2 r ⟨min (idx (ix3 r 0 0)).toInt.toNat 99999, by omega⟩) := by
  obtain rfl : q = 0 := Subsingleton.elim _ _
  unfold Host.gather
  congr 1
  funext a
  refine Fin.ext ?_
  match a with
  | 0 =>
    show GatherDims.start _ _ idx 0 + GatherDims.batchCoord _ _ 0 + GatherDims.offCoord _ _ 0 = _
    rw [GatherDims.offCoord_eq_zero _ _ _ (fun h => ((GatherDims.mem_sKept _ _).mp h).2 (List.mem_singleton.mpr rfl))]
    unfold GatherDims.start GatherDims.batchCoord
    rw [dif_neg (by decide), dif_pos (by decide), Nat.zero_add, Nat.add_zero]
    rfl
  | 1 =>
    show GatherDims.start _ _ idx 1 + GatherDims.batchCoord _ _ 1 + GatherDims.offCoord _ _ 1 = _
    rw [GatherDims.offCoord_eq_zero _ _ _ (fun h => ((GatherDims.mem_sKept _ _).mp h).1 (List.mem_singleton.mpr rfl)),
      GatherDims.batchCoord_eq_zero _ _ _ (by decide)]
    unfold GatherDims.start
    rw [dif_pos (by decide)]
    refine congrArg (fun y => min (idx y).toInt.toNat 99999) (funext fun b => Fin.ext ?_)
    match b with
    | ⟨0, _⟩ => rfl
    | ⟨1, _⟩ => rfl
    | ⟨2, _⟩ => rfl

/-- The start indices: the targets, a negative one counted from the end. -/
abbrev starts (t : IVec S1024 32) : IVec S1024x1x1 32 :=
  shapeCast _ (select (cmpi .slt (broadcastInDim S1024x1 ![0] bcast_S1024_S1024x1_0 t) (broadcastInDim S1024x1 ![] bcast_S_S1024x1 (constantI S_ 32 0#32)))
    (addi (broadcastInDim S1024x1 ![0] bcast_S1024_S1024x1_0 t) (broadcastInDim S1024x1 ![] bcast_S_S1024x1 (constantI S_ 32 100000#32)))
    (broadcastInDim S1024x1 ![0] bcast_S1024_S1024x1_0 t)) shapeCasts_S1024x1_S1024x1x1

/-- The taken entries: those gathered, where the start index is a column number. -/
abbrev taken (x : FVec Ideal S1024x100000 .f32) (t : IVec S1024 32) : FVec Ideal S1024x1 .f32 :=
  select (Host.reduce IntOp.andi (andi (cmpi .sge (starts t) (broadcastInDim S1024x1x1 ![] bcast_S_S1024x1x1 (constantI S_ 32 0#32)))
      (cmpi .sle (starts t) (broadcastInDim S1024x1x1 ![0, 1, 2] bcast_S1x1x1_S1024x1x1_0_1_2 (broadcastInDim S1x1x1 ![2] bcast_S1_S1x1x1_2 (constantI S1 32 99999#32)))))
      (constantI S_ 1 1#1) reducesTo_S1024x1x1_S1024x1_d2 h_S_)
    (Host.gather gather_S1024x100000_S1024x1x1_S1024x1_n_1_0_0_1_2_11 x (starts t))
    (broadcastInDim S1024x1 ![] bcast_S_S1024x1 (constant S_ .f32 0x7FC00000#32))

/-- The reference's result. -/
abbrev result (x : FVec Ideal S1024x100000 .f32) (t : IVec S1024 32) : FVec Ideal S_ .f32 :=
  subf (mulf (constant S_ .f32 0xBF666666#32) (Host.reduceAdd (taken x t) (constant S_ .f32 0x00000000#32) reducesTo_S1024x1_S_d0_1 h_S_))
    (mulf (constant S_ .f32 0x3DCCCCCD#32)
      (Host.divf (Host.reduceAdd x (constant S_ .f32 0x00000000#32) reducesTo_S1024x100000_S_d0_1 h_S_) (constant S_ .f32 0x4CC35000#32)))

variable (x : FVec Ideal S1024x100000 .f32) (t : IVec S1024 32) (ht : ∀ j, (t j).toNat < 100000)

include ht in
/-- A target is not negative, so row `r`'s start index is its target. -/
theorem starts_at (i : S1024x1x1.Idx) : starts t i = t (ix1 (i 0)) := by
  have h := ht (ix1 (i 0))
  have hs : IntOp.cmpi .slt (t (ix1 (i 0))) 0#32 = 0#1 := by
    rw [WordCmp.cmpi_slt_zero, decide_eq_false (by omega)]; rfl
  unfold starts
  pointwise
  rw [hs]
  rfl

include ht in
/-- The taken entry of row `r` is the one under the row's target. -/
theorem taken_at (r : Fin 1024) (q : Fin 1) : taken x t (ix2 r q) = x (ix2 r ⟨(t (ix1 r)).toNat, ht _⟩) := by
  unfold taken
  rw [ValueIdx.select_apply, Host.reduce_andi_one _ _ _ _ _ rfl ?_, ValueIdx.select_one, gather_at]
  · have h := ht (ix1 r)
    congr 2
    refine Fin.ext ?_
    show min (starts t (ix3 r 0 0)).toInt.toNat 99999 = (t (ix1 r)).toNat
    rw [starts_at t ht, WordCmp.toInt_eq_toNat_of_lt_half (by show (t (ix1 r)).toNat < _; omega), Int.toNat_natCast]
    show min (t (ix1 r)).toNat 99999 = _
    omega
  · intro i
    have h := ht (ix1 (i 0))
    show IntOp.andi (IntOp.cmpi .sge (starts t i) 0#32) (IntOp.cmpi .sle (starts t i) 99999#32) = 1#1
    rw [starts_at t ht, WordCmp.cmpi_sge_zero, WordCmp.cmpi_sle_of_lt (by omega) (by decide), decide_eq_true (by omega),
      decide_eq_true (by show _ ≤ 99999; omega)]
    rfl

/-- A host sum over both axes of a two-axis array is the initial value and the sum over rows and columns. -/
theorem sum_all {n0 n1 : ℕ} (y : (⟨2, ![n0, n1]⟩ : Shape).Idx → EReal) (init : EReal) (h : (⟨2, ![n0, n1]⟩ : Shape).ReducesTo [0, 1] S_) (j : S_.Idx) :
    Ideal.hostReduceAdd h y init j = init + ∑ a : Fin n0, ∑ b : Fin n1, y (ix2 a b) := by
  unfold Ideal.hostReduceAdd
  rw [Finset.filter_true_of_mem (fun i _ => funext fun a => a.elim0), ValueIdx.sum_idx2]
  rfl

include ht in
/-- The reference's result: a multiple of the sum of the entries under the targets, minus a multiple of the mean. -/
theorem result_at (i : S_.Idx) :
    result x t i = Ideal.ofBits .f32 0xBF666666#32 * (∑ r : Fin 1024, x (ix2 r ⟨(t (ix1 r)).toNat, ht _⟩))
      - Ideal.ofBits .f32 0x3DCCCCCD#32 * Ideal.div (∑ a : Fin 1024, ∑ b : Fin 100000, x (ix2 a b)) (Ideal.ofBits .f32 0x4CC35000#32) := by
  show Ideal.ofBits .f32 0xBF666666#32 * Ideal.hostReduceAdd reducesTo_S1024x1_S_d0_1 (taken x t) (Ideal.ofBits .f32 0x00000000#32) i
      - Ideal.ofBits .f32 0x3DCCCCCD#32 * Ideal.div (Ideal.hostReduceAdd reducesTo_S1024x100000_S_d0_1 x (Ideal.ofBits .f32 0x00000000#32) i) (Ideal.ofBits .f32 0x4CC35000#32) = _
  rw [sum_all, sum_all, Ideal.ofBits_zero_f32, zero_add, zero_add]
  simp only [taken_at x t ht, Finset.univ_unique, Finset.sum_singleton]

end Cert.Proof.RefValue

end
-- ==== Proof.Value.lean ====
/-
  What the kernel computes over the extended reals, and that it is what the reference computes. The blocks' sums added in
  order are the sum of all entries; the two subcores' sums, each of half the rows in order, add up to the sum of the
  entries under the targets, the padding never read; and a multiple of a sum divided by the number of entries is the
  multiple of the mean.
-/
module

public import proofs.«01_k».proof.Proof.Main
public import proofs.«01_k».proof.Proof.RefValue
public import Idealize.ShloMosaic.Lib.Pointwise.Sums

@[expose] public section

noncomputable section

namespace Cert.Proof.Value

open Cert.KernelIdeal Cert.KernelIdeal.Gen Cert.Proof.Main Cert.Proof.Gather
open Idealize.ShloMosaic

/-! ## The sum of all entries -/

/-- Block `t`'s entry at row `a` is the array's at row `4000 t + a`. -/
theorem blk_at (A : S100000x1024.Idx → EReal) (t : Fin cfg0.N) (a : Fin 4000) (b : Fin 1024) :
    Sum.blk (F := Ideal) A t (ix2 a b) = A (ix2 ⟨t.val * 4000 + a.val, by have := t.isLt; have : cfg0.N = 25 := rfl; omega⟩ b) := by
  show A (((cfg0.win 0).blk t).view.emb (ix2 a b)) = _
  congr 1
  funext d
  refine Fin.ext ?_
  match d with
  | 0 =>
    show cc0_transform_0 (grid0.coords t) 0 * 4000 + 1 * a.val = t.val * 4000 + a.val
    rw [(by decide : ∀ t : Fin grid0.N, cc0_transform_0 (grid0.coords t) 0 = t.val) t, Nat.one_mul]
  | 1 =>
    show 0 * 1024 + 1 * b.val = b.val
    rw [Nat.zero_mul, Nat.zero_add, Nat.one_mul]

/-- A point adds the sum of its block to the running sum. -/
theorem pay_at (v : EReal) (B : FVec Ideal S4000x1024 .f32) :
    k0_pay1 (F := Ideal) v B = v + ∑ a : Fin 4000, ∑ b : Fin 1024, B (ix2 a b) := by
  unfold k0_pay1
  pointwise

/-- The sum of block `t`. -/
def blkSum (A : S100000x1024.Idx → EReal) (t : ℕ) : EReal :=
  if h : t < cfg0.N then ∑ a : Fin 4000, ∑ b : Fin 1024, Sum.blk (F := Ideal) A ⟨t, h⟩ (ix2 a b) else 0

/-- The running sum after `n` points is the sum of the first `n` blocks' sums. -/
theorem accT_eq (A : S100000x1024.Idx → EReal) (n : ℕ) : Sum.accT (F := Ideal) A n = ∑ t ∈ Finset.range n, blkSum A t := by
  induction n with
  | zero => exact Ideal.ofBits_zero_f32
  | succ n ih =>
    rw [Finset.sum_range_succ, ← ih]
    unfold blkSum
    by_cases h : n < cfg0.N
    · rw [dif_pos h, Sum.accT_succ (F := Ideal) A ⟨n, h⟩, pay_at]
    · rw [dif_neg h, add_zero]; exact dif_neg h

/-- After the last point it is the sum of all entries. -/
theorem accT_all (A : S100000x1024.Idx → EReal) :
    Sum.accT (F := Ideal) A 25 = ∑ k : Fin 100000, ∑ b : Fin 1024, A (ix2 k b) := by
  rw [accT_eq, Fin.sum_univ_tiles 25 4000 (by norm_num), ← Fin.sum_univ_eq_sum_range]
  refine Finset.sum_congr rfl fun t _ => ?_
  unfold blkSum
  rw [dif_pos (show t.val < cfg0.N from t.isLt)]
  exact Finset.sum_congr rfl fun a _ => Finset.sum_congr rfl fun b _ => blk_at A ⟨t.val, t.isLt⟩ a b

variable (m : (ℓ : Loc nD τ sig) → Buf (Elt Ideal) ℓ) (d : Dev nD)

/-- So the total that the kernel uses is the sum of the input's entries. -/
theorem tot_eq : tot m d = ∑ r : Fin 1024, ∑ k : Fin 100000, inp m d (ix2 r k) := by
  unfold tot
  rw [accT_all, Finset.sum_comm]
  refine Finset.sum_congr rfl fun r _ => Finset.sum_congr rfl fun k _ => ?_
  unfold inpT
  pointwise

/-! ## The sum of the entries under the targets -/

/-- A subcore's running sum is the sum of the entries picked so far. -/
theorem accN_eq (x : S1024x100096.Idx → EReal) (t : S1024.Idx → BitVec 32) (c n : ℕ) :
    accN (F := Ideal) x t c n = ∑ k ∈ Finset.range n, pick (F := Ideal) x t (512 * c + k) := by
  induction n with
  | zero => exact Ideal.ofBits_zero_f32
  | succ n ih => rw [Finset.sum_range_succ, ← ih]; rfl

/-- The padded input is the input at the input's columns. -/
theorem padded_at (r : Fin 1024) (k : ℕ) (hk : k < 100000) : padded m d (ix2 r ⟨k, by omega⟩) = inp m d (ix2 r ⟨k, hk⟩) := by
  unfold padded
  rw [pad_apply, dif_pos]
  · congr 1
    funext a
    match a with
    | 0 => exact Fin.ext (show (r.val - 0) / (0 + 1) = r.val by omega)
    | 1 => exact Fin.ext (show (k - 0) / (0 + 1) = k by omega)
  · intro a
    match a with
    | 0 => exact ⟨Nat.zero_le _, Nat.mod_one _, show (r.val - 0) / (0 + 1) < 1024 by omega⟩
    | 1 => exact ⟨Nat.zero_le _, Nat.mod_one _, show (k - 0) / (0 + 1) < 100000 by omega⟩

variable (ht : ∀ j, (tgt m d j).toNat < 100000)

/-- The entry picked for row `r` is the input's under the row's target. -/
theorem pick_at (r : Fin 1024) :
    pick (F := Ideal) (padded m d) (tgt m d) r.val = inp m d (ix2 r ⟨(tgt m d (ix1 r)).toNat, ht _⟩) := by
  unfold pick
  rw [tAt_of (r := r.val) (tgt m d) (ix1 r) rfl, ← padded_at m d r _ (ht _)]
  exact xAt_of (padded m d) _ rfl rfl

/-- The two subcores' sums add up to the sum of the entries under the targets. -/
theorem sums_eq : ∑ c : Fin 2, sums (F := Ideal) (padded m d) (tgt m d) (ix2 c 0)
    = ∑ r : Fin 1024, inp m d (ix2 r ⟨(tgt m d (ix1 r)).toNat, ht _⟩) := by
  rw [Fin.sum_univ_tiles (N := 1024) 2 512 (by norm_num)]
  refine Finset.sum_congr rfl fun c _ => ?_
  show accN (F := Ideal) (padded m d) (tgt m d) c.val 512 = _
  rw [accN_eq, ← Fin.sum_univ_eq_sum_range (fun k => pick (F := Ideal) (padded m d) (tgt m d) (512 * c.val + k))]
  refine Finset.sum_congr rfl fun k _ => ?_
  rw [Nat.mul_comm 512]
  exact pick_at m d ht ⟨c.val * 512 + k.val, by omega⟩

/-! ## The result -/

/-- The number of entries, as the kernel and the reference divide by it, is not zero. -/
theorem count_ne_zero : Ideal.ofBits .f32 0x4CC35000#32 ≠ 0 := by
  simp [Ideal.ofBits, Ideal.ieee]

/-- A multiple divided is the multiple of the quotient. -/
theorem div_mul (a b c : EReal) (hc : c ≠ 0) : Ideal.div (a * b) c = a * Ideal.div b c := by
  unfold Ideal.div
  rw [if_neg hc, if_neg hc, mul_assoc]

/-- The kernel's combination of the two sums. -/
theorem combine_at (ls : S2x8.Idx → EReal) (total : EReal) (i : S_.Idx) :
    combine (F := Ideal) ls total i = Ideal.ofBits .f32 0xBF666666#32 * (∑ c : Fin 2, ls (ix2 c 0))
      - Ideal.div (Ideal.ofBits .f32 0x3DCCCCCD#32 * total) (Ideal.ofBits .f32 0x4CC35000#32) := by
  unfold combine
  pointwise

include ht in
/-- The kernel's result is the reference's. -/
theorem result_eq : result m d = RefValue.result (inp m d) (tgt m d) := by
  funext i
  rw [RefValue.result_at _ _ ht]
  unfold result
  rw [combine_at, sums_eq m d ht, tot_eq, div_mul _ _ _ count_ne_zero]

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.Main
public import proofs.«01_k».proof.Proof.SameText
public import proofs.«01_k».proof.Proof.Range
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem

/-- `Cert.quiescent_KernelIdeal`: the kernel's run over the extended reals, read at the arguments and the counters. -/
theorem frame_ideal : Cert.quiescent_KernelIdeal := fun m ρ hpre =>
  (θ_run Cert.KernelIdeal.defs _ _).mono (fun _ h => ⟨fun c => (h.1 c).2, h.2⟩)
    (Main.run_main (F := Ideal) m ρ fun d => Range.of_pre _ _ (hpre d))

/-- `Cert.quiescent_Kernel`: the kernel as printed has the same text, so its run over the bit patterns is the same. -/
theorem frame_kernel : Cert.quiescent_Kernel := fun m ρ hpre =>
  SameText.run ((θ_run Cert.KernelIdeal.defs _ _).mono (fun _ h => ⟨fun c => (h.1 c).2, h.2⟩)
    (Main.run_main (F := Bits) m ρ fun d => Range.of_pre _ _ (hpre d)))

/-- `Cert.quiescent_ReferenceIdeal`: the reference's run at any targets, read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.quiescent_ReferenceIdeal_pre_in_range`: the same where the targets are in range. -/
theorem frame_reference_in_range : Cert.quiescent_ReferenceIdeal_pre_in_range := fun m ρ _ => frame_reference m ρ trivial

/-- `Cert.algebraic_KernelIdeal_ReferenceIdeal`: the shared result is the kernel's, which is the reference's of the same
    arguments. -/
theorem algebraic : Cert.algebraic_KernelIdeal_ReferenceIdeal := by
  intro m ρ m' ρ' hpre hagree
  have ht : ∀ d j, (Main.tgt m d j).toNat < 100000 := fun d => Range.of_pre _ _ (hpre d)
  refine ⟨fun c => Main.result m c, (θ_run Cert.KernelIdeal.defs _ _).mono (fun _ h c => h.1 c) (Main.run_main (F := Ideal) m ρ ht),
    (θ_run Cert.ReferenceIdeal.defs _ _).mono (fun _ h c => ⟨(h c).1.trans ?_, (h c).2⟩) (Cert.ReferenceIdeal.Value.run (F := Ideal) m' ρ')⟩
  refine Eq.trans ?_ (Value.result_eq m c (ht c)).symm
  exact congrArg₂ RefValue.result (hagree c).1 (hagree c).2

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, algebraic⟩

end Cert.Proof

end
